-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![32768, 1024]⟩ ⟨2, ![65536, 1024]⟩ (Layout.meshBlock [2, 2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32768x1024 : Shape := ⟨2, ![32768, 1024]⟩
abbrev S65536x1024 : Shape := ⟨2, ![65536, 1024]⟩
abbrev S2x1024x1024 : Shape := ⟨3, ![2, 1024, 1024]⟩
abbrev S2 : Shape := ⟨1, ![2]⟩
abbrev S6x8 : Shape := ⟨2, ![6, 8]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1 : Shape := ⟨2, ![1, 1]⟩

abbrev nBuf : Space → Nat
  | .hbm => 3
  | .vmem => 2
  | .smem => 0
  | _ => 0

abbrev bufTy : (tb : Table) → Fin (tcTables nBuf tb) → BufTy
  | .hbm, ⟨0, _⟩ => ⟨S32768x1024, .bf16⟩
  | .hbm, ⟨1, _⟩ => ⟨S65536x1024, .bf16⟩
  | .hbm, ⟨2, _⟩ => ⟨S32768x1024, .bf16⟩
  | .local _ .vmem, ⟨0, _⟩ => ⟨S2x1024x1024, .bf16⟩
  | .local _ .vmem, ⟨1, _⟩ => ⟨S2x1024x1024, .bf16⟩
  | _, _ => ⟨S32768x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 148 → Bool
  | ⟨i, _⟩ => dmaSemScopedAt i

abbrev sig : RefSig :=
  ofTc nBuf bufTy 0 148 bufScoped semScoped dmaSemScoped tileCredit tileCredit_eq_zero tileCredit_pos

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32 : BitVec 32 := 8192#32
  let v27 : BitVec 32 := Scalar.muli v13 c8192_i32
  let v28 : BitVec 32 := Scalar.addi v27 c0_i32
  let c0_i32_20 : BitVec 32 := 0#32
  ![v28.toNat, 0]
def k0_off2 (d0 : Dev nD) (c0_i32_40 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32 : BitVec 32 := 32768#32
  let v9 : BitVec 32 := Scalar.muli v2 c32768_i32
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32_39 : BitVec 32 := 8192#32
  let v53 : BitVec 32 := Scalar.muli v13 c8192_i32_39
  let v54 : BitVec 32 := Scalar.addi v53 c0_i32_40
  let v55 : BitVec 32 := Scalar.addi v9 v54
  let c0_i32_43 : BitVec 32 := 0#32
  ![v55.toNat, 0]
def k0_dev1 (d0 : Dev nD) : Nat :=
  let c0_i32_58 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_57 : BitVec 32 := 4#32
  let v69 : BitVec 32 := Scalar.muli v24 c4_i32_57
  let v70 : BitVec 32 := Scalar.addi c0_i32_58 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v71 : BitVec 32 := Scalar.muli v5 c2_i32_59
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v73 : BitVec 32 := Scalar.muli v8 c1_i32_60
  let v74 : BitVec 32 := Scalar.addi v72 v73
  v74.toNat
def k0_dev2 (d0 : Dev nD) : Nat :=
  let c0_i32_100 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_99 : BitVec 32 := 4#32
  let v116 : BitVec 32 := Scalar.muli v24 c4_i32_99
  let v117 : BitVec 32 := Scalar.addi c0_i32_100 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v118 : BitVec 32 := Scalar.muli v5 c2_i32_101
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v120 : BitVec 32 := Scalar.muli v8 c1_i32_102
  let v121 : BitVec 32 := Scalar.addi v119 v120
  v121.toNat
def k0_dev3 (d0 : Dev nD) : Nat :=
  let c0_i32_143 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_142 : BitVec 32 := 4#32
  let v163 : BitVec 32 := Scalar.muli v24 c4_i32_142
  let v164 : BitVec 32 := Scalar.addi c0_i32_143 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v165 : BitVec 32 := Scalar.muli v5 c2_i32_144
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v167 : BitVec 32 := Scalar.muli v8 c1_i32_145
  let v168 : BitVec 32 := Scalar.addi v166 v167
  v168.toNat
def k0_dev4 (d0 : Dev nD) : Nat :=
  let c0_i32_185 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_184 : BitVec 32 := 4#32
  let v210 : BitVec 32 := Scalar.muli v24 c4_i32_184
  let v211 : BitVec 32 := Scalar.addi c0_i32_185 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v212 : BitVec 32 := Scalar.muli v5 c2_i32_186
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v214 : BitVec 32 := Scalar.muli v8 c1_i32_187
  let v215 : BitVec 32 := Scalar.addi v213 v214
  v215.toNat
def k0_dev5 (d0 : Dev nD) : Nat :=
  let c0_i32_228 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_227 : BitVec 32 := 4#32
  let v257 : BitVec 32 := Scalar.muli v24 c4_i32_227
  let v258 : BitVec 32 := Scalar.addi c0_i32_228 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v259 : BitVec 32 := Scalar.muli v5 c2_i32_229
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v261 : BitVec 32 := Scalar.muli v8 c1_i32_230
  let v262 : BitVec 32 := Scalar.addi v260 v261
  v262.toNat
def k0_dev6 (d0 : Dev nD) : Nat :=
  let c0_i32_270 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_269 : BitVec 32 := 4#32
  let v304 : BitVec 32 := Scalar.muli v24 c4_i32_269
  let v305 : BitVec 32 := Scalar.addi c0_i32_270 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v306 : BitVec 32 := Scalar.muli v5 c2_i32_271
  let v307 : BitVec 32 := Scalar.addi v305 v306
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v308 : BitVec 32 := Scalar.muli v8 c1_i32_272
  let v309 : BitVec 32 := Scalar.addi v307 v308
  v309.toNat
def k0_dev7 (d0 : Dev nD) : Nat :=
  let c0_i32_312 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_311 : BitVec 32 := 4#32
  let v351 : BitVec 32 := Scalar.muli v24 c4_i32_311
  let v352 : BitVec 32 := Scalar.addi c0_i32_312 v351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v353 : BitVec 32 := Scalar.muli v5 c2_i32_313
  let v354 : BitVec 32 := Scalar.addi v352 v353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v355 : BitVec 32 := Scalar.muli v8 c1_i32_314
  let v356 : BitVec 32 := Scalar.addi v354 v355
  v356.toNat
def k0_off3 (d0 : Dev nD) (c0_i32_318 : BitVec 32) : Fin 2 → Nat :=
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v21 : BitVec 32 := Scalar.muli c2_i32_11 v20
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_12 v8
  let v23 : BitVec 32 := Scalar.addi v21 v22
  let c8192_i32_317 : BitVec 32 := 8192#32
  let v363 : BitVec 32 := Scalar.muli v23 c8192_i32_317
  let v364 : BitVec 32 := Scalar.addi v363 c0_i32_318
  let c0_i32_323 : BitVec 32 := 0#32
  ![v364.toNat, 0]
def k0_dev8 (d0 : Dev nD) : Nat :=
  let c0_i32_355 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_354 : BitVec 32 := 4#32
  let v398 : BitVec 32 := Scalar.muli v24 c4_i32_354
  let v399 : BitVec 32 := Scalar.addi c0_i32_355 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v400 : BitVec 32 := Scalar.muli v5 c2_i32_356
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v402 : BitVec 32 := Scalar.muli v8 c1_i32_357
  let v403 : BitVec 32 := Scalar.addi v401 v402
  v403.toNat
def k0_off4 (d0 : Dev nD) (c0_i32_381 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32 : BitVec 32 := 32768#32
  let v9 : BitVec 32 := Scalar.muli v2 c32768_i32
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v21 : BitVec 32 := Scalar.muli c2_i32_11 v20
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_12 v8
  let v23 : BitVec 32 := Scalar.addi v21 v22
  let c8192_i32_380 : BitVec 32 := 8192#32
  let v429 : BitVec 32 := Scalar.muli v23 c8192_i32_380
  let v430 : BitVec 32 := Scalar.addi v429 c0_i32_381
  let v431 : BitVec 32 := Scalar.addi v9 v430
  let c0_i32_384 : BitVec 32 := 0#32
  ![v431.toNat, 0]
def k0_dev9 (d0 : Dev nD) : Nat :=
  let c0_i32_399 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_398 : BitVec 32 := 4#32
  let v445 : BitVec 32 := Scalar.muli v24 c4_i32_398
  let v446 : BitVec 32 := Scalar.addi c0_i32_399 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v447 : BitVec 32 := Scalar.muli v5 c2_i32_400
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_401 : BitVec 32 := 1#32
  let v449 : BitVec 32 := Scalar.muli v8 c1_i32_401
  let v450 : BitVec 32 := Scalar.addi v448 v449
  v450.toNat
def k0_dev10 (d0 : Dev nD) : Nat :=
  let c0_i32_443 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_442 : BitVec 32 := 4#32
  let v492 : BitVec 32 := Scalar.muli v24 c4_i32_442
  let v493 : BitVec 32 := Scalar.addi c0_i32_443 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_444 : BitVec 32 := 2#32
  let v494 : BitVec 32 := Scalar.muli v5 c2_i32_444
  let v495 : BitVec 32 := Scalar.addi v493 v494
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_445 : BitVec 32 := 1#32
  let v496 : BitVec 32 := Scalar.muli v8 c1_i32_445
  let v497 : BitVec 32 := Scalar.addi v495 v496
  v497.toNat
def k0_dev11 (d0 : Dev nD) : Nat :=
  let c0_i32_487 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_486 : BitVec 32 := 4#32
  let v539 : BitVec 32 := Scalar.muli v24 c4_i32_486
  let v540 : BitVec 32 := Scalar.addi c0_i32_487 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v541 : BitVec 32 := Scalar.muli v5 c2_i32_488
  let v542 : BitVec 32 := Scalar.addi v540 v541
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_489 : BitVec 32 := 1#32
  let v543 : BitVec 32 := Scalar.muli v8 c1_i32_489
  let v544 : BitVec 32 := Scalar.addi v542 v543
  v544.toNat
def k0_off5 (d0 : Dev nD) (c0_i32_611 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c8192_i32_610 : BitVec 32 := 8192#32
  let v669 : BitVec 32 := Scalar.muli v16 c8192_i32_610
  let v670 : BitVec 32 := Scalar.addi v669 c0_i32_611
  let c0_i32_616 : BitVec 32 := 0#32
  ![v670.toNat, 0]
def k0_off6 (d0 : Dev nD) (c0_i32_668 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32 : BitVec 32 := 32768#32
  let v9 : BitVec 32 := Scalar.muli v2 c32768_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c8192_i32_667 : BitVec 32 := 8192#32
  let v725 : BitVec 32 := Scalar.muli v16 c8192_i32_667
  let v726 : BitVec 32 := Scalar.addi v725 c0_i32_668
  let v727 : BitVec 32 := Scalar.addi v9 v726
  let c0_i32_671 : BitVec 32 := 0#32
  ![v727.toNat, 0]
def k0_off7 (d0 : Dev nD) (c0_i32_867 : BitVec 32) : Fin 2 → Nat :=
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c8192_i32_866 : BitVec 32 := 8192#32
  let v925 : BitVec 32 := Scalar.muli v19 c8192_i32_866
  let v926 : BitVec 32 := Scalar.addi v925 c0_i32_867
  let c0_i32_872 : BitVec 32 := 0#32
  ![v926.toNat, 0]
def k0_off8 (d0 : Dev nD) (c0_i32_924 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c32768_i32 : BitVec 32 := 32768#32
  let v9 : BitVec 32 := Scalar.muli v2 c32768_i32
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c8192_i32_923 : BitVec 32 := 8192#32
  let v981 : BitVec 32 := Scalar.muli v19 c8192_i32_923
  let v982 : BitVec 32 := Scalar.addi v981 c0_i32_924
  let v983 : BitVec 32 := Scalar.addi v9 v982
  let c0_i32_927 : BitVec 32 := 0#32
  ![v983.toNat, 0]
def k0_off9 (d0 : Dev nD) (c0_i32_1168 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c32768_i32_4 : BitVec 32 := 32768#32
  let v11 : BitVec 32 := Scalar.muli v10 c32768_i32_4
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32_1167 : BitVec 32 := 8192#32
  let v1226 : BitVec 32 := Scalar.muli v13 c8192_i32_1167
  let v1227 : BitVec 32 := Scalar.addi v1226 c0_i32_1168
  let v1228 : BitVec 32 := Scalar.addi v11 v1227
  let c0_i32_1171 : BitVec 32 := 0#32
  ![v1228.toNat, 0]
def k0_dev12 (d0 : Dev nD) : Nat :=
  let c0_i32_1178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1177 : BitVec 32 := 4#32
  let v1233 : BitVec 32 := Scalar.muli v2 c4_i32_1177
  let v1234 : BitVec 32 := Scalar.addi c0_i32_1178 v1233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1179 : BitVec 32 := 2#32
  let v1235 : BitVec 32 := Scalar.muli v5 c2_i32_1179
  let v1236 : BitVec 32 := Scalar.addi v1234 v1235
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1180 : BitVec 32 := 1#32
  let v1237 : BitVec 32 := Scalar.muli v26 c1_i32_1180
  let v1238 : BitVec 32 := Scalar.addi v1236 v1237
  v1238.toNat
def k0_dev13 (d0 : Dev nD) : Nat :=
  let c0_i32_1188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1187 : BitVec 32 := 4#32
  let v1245 : BitVec 32 := Scalar.muli v2 c4_i32_1187
  let v1246 : BitVec 32 := Scalar.addi c0_i32_1188 v1245
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1189 : BitVec 32 := 2#32
  let v1247 : BitVec 32 := Scalar.muli v25 c2_i32_1189
  let v1248 : BitVec 32 := Scalar.addi v1246 v1247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1190 : BitVec 32 := 1#32
  let v1249 : BitVec 32 := Scalar.muli v8 c1_i32_1190
  let v1250 : BitVec 32 := Scalar.addi v1248 v1249
  v1250.toNat
def k0_dev14 (d0 : Dev nD) : Nat :=
  let c0_i32_1214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1213 : BitVec 32 := 4#32
  let v1274 : BitVec 32 := Scalar.muli v2 c4_i32_1213
  let v1275 : BitVec 32 := Scalar.addi c0_i32_1214 v1274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1215 : BitVec 32 := 2#32
  let v1276 : BitVec 32 := Scalar.muli v5 c2_i32_1215
  let v1277 : BitVec 32 := Scalar.addi v1275 v1276
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1216 : BitVec 32 := 1#32
  let v1278 : BitVec 32 := Scalar.muli v26 c1_i32_1216
  let v1279 : BitVec 32 := Scalar.addi v1277 v1278
  v1279.toNat
def k0_dev15 (d0 : Dev nD) : Nat :=
  let c0_i32_1224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1223 : BitVec 32 := 4#32
  let v1286 : BitVec 32 := Scalar.muli v2 c4_i32_1223
  let v1287 : BitVec 32 := Scalar.addi c0_i32_1224 v1286
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1225 : BitVec 32 := 2#32
  let v1288 : BitVec 32 := Scalar.muli v25 c2_i32_1225
  let v1289 : BitVec 32 := Scalar.addi v1287 v1288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1226 : BitVec 32 := 1#32
  let v1290 : BitVec 32 := Scalar.muli v8 c1_i32_1226
  let v1291 : BitVec 32 := Scalar.addi v1289 v1290
  v1291.toNat
def k0_dev16 (d0 : Dev nD) : Nat :=
  let c0_i32_1250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1249 : BitVec 32 := 4#32
  let v1315 : BitVec 32 := Scalar.muli v2 c4_i32_1249
  let v1316 : BitVec 32 := Scalar.addi c0_i32_1250 v1315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1251 : BitVec 32 := 2#32
  let v1317 : BitVec 32 := Scalar.muli v5 c2_i32_1251
  let v1318 : BitVec 32 := Scalar.addi v1316 v1317
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1252 : BitVec 32 := 1#32
  let v1319 : BitVec 32 := Scalar.muli v26 c1_i32_1252
  let v1320 : BitVec 32 := Scalar.addi v1318 v1319
  v1320.toNat
def k0_dev17 (d0 : Dev nD) : Nat :=
  let c0_i32_1260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1259 : BitVec 32 := 4#32
  let v1327 : BitVec 32 := Scalar.muli v2 c4_i32_1259
  let v1328 : BitVec 32 := Scalar.addi c0_i32_1260 v1327
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1261 : BitVec 32 := 2#32
  let v1329 : BitVec 32 := Scalar.muli v25 c2_i32_1261
  let v1330 : BitVec 32 := Scalar.addi v1328 v1329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1262 : BitVec 32 := 1#32
  let v1331 : BitVec 32 := Scalar.muli v8 c1_i32_1262
  let v1332 : BitVec 32 := Scalar.addi v1330 v1331
  v1332.toNat
def k0_dev18 (d0 : Dev nD) : Nat :=
  let c0_i32_1286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1285 : BitVec 32 := 4#32
  let v1356 : BitVec 32 := Scalar.muli v2 c4_i32_1285
  let v1357 : BitVec 32 := Scalar.addi c0_i32_1286 v1356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1287 : BitVec 32 := 2#32
  let v1358 : BitVec 32 := Scalar.muli v5 c2_i32_1287
  let v1359 : BitVec 32 := Scalar.addi v1357 v1358
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1288 : BitVec 32 := 1#32
  let v1360 : BitVec 32 := Scalar.muli v26 c1_i32_1288
  let v1361 : BitVec 32 := Scalar.addi v1359 v1360
  v1361.toNat
def k0_dev19 (d0 : Dev nD) : Nat :=
  let c0_i32_1296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1295 : BitVec 32 := 4#32
  let v1368 : BitVec 32 := Scalar.muli v2 c4_i32_1295
  let v1369 : BitVec 32 := Scalar.addi c0_i32_1296 v1368
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1297 : BitVec 32 := 2#32
  let v1370 : BitVec 32 := Scalar.muli v25 c2_i32_1297
  let v1371 : BitVec 32 := Scalar.addi v1369 v1370
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1298 : BitVec 32 := 1#32
  let v1372 : BitVec 32 := Scalar.muli v8 c1_i32_1298
  let v1373 : BitVec 32 := Scalar.addi v1371 v1372
  v1373.toNat
def k0_dev20 (d0 : Dev nD) : Nat :=
  let c0_i32_1322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1321 : BitVec 32 := 4#32
  let v1397 : BitVec 32 := Scalar.muli v2 c4_i32_1321
  let v1398 : BitVec 32 := Scalar.addi c0_i32_1322 v1397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1323 : BitVec 32 := 2#32
  let v1399 : BitVec 32 := Scalar.muli v5 c2_i32_1323
  let v1400 : BitVec 32 := Scalar.addi v1398 v1399
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1324 : BitVec 32 := 1#32
  let v1401 : BitVec 32 := Scalar.muli v26 c1_i32_1324
  let v1402 : BitVec 32 := Scalar.addi v1400 v1401
  v1402.toNat
def k0_dev21 (d0 : Dev nD) : Nat :=
  let c0_i32_1332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1331 : BitVec 32 := 4#32
  let v1409 : BitVec 32 := Scalar.muli v2 c4_i32_1331
  let v1410 : BitVec 32 := Scalar.addi c0_i32_1332 v1409
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1333 : BitVec 32 := 2#32
  let v1411 : BitVec 32 := Scalar.muli v25 c2_i32_1333
  let v1412 : BitVec 32 := Scalar.addi v1410 v1411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1334 : BitVec 32 := 1#32
  let v1413 : BitVec 32 := Scalar.muli v8 c1_i32_1334
  let v1414 : BitVec 32 := Scalar.addi v1412 v1413
  v1414.toNat
def k0_dev22 (d0 : Dev nD) : Nat :=
  let c0_i32_1358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1357 : BitVec 32 := 4#32
  let v1438 : BitVec 32 := Scalar.muli v2 c4_i32_1357
  let v1439 : BitVec 32 := Scalar.addi c0_i32_1358 v1438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1359 : BitVec 32 := 2#32
  let v1440 : BitVec 32 := Scalar.muli v5 c2_i32_1359
  let v1441 : BitVec 32 := Scalar.addi v1439 v1440
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1360 : BitVec 32 := 1#32
  let v1442 : BitVec 32 := Scalar.muli v26 c1_i32_1360
  let v1443 : BitVec 32 := Scalar.addi v1441 v1442
  v1443.toNat
def k0_dev23 (d0 : Dev nD) : Nat :=
  let c0_i32_1368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1367 : BitVec 32 := 4#32
  let v1450 : BitVec 32 := Scalar.muli v2 c4_i32_1367
  let v1451 : BitVec 32 := Scalar.addi c0_i32_1368 v1450
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1369 : BitVec 32 := 2#32
  let v1452 : BitVec 32 := Scalar.muli v25 c2_i32_1369
  let v1453 : BitVec 32 := Scalar.addi v1451 v1452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1370 : BitVec 32 := 1#32
  let v1454 : BitVec 32 := Scalar.muli v8 c1_i32_1370
  let v1455 : BitVec 32 := Scalar.addi v1453 v1454
  v1455.toNat
def k0_dev24 (d0 : Dev nD) : Nat :=
  let c0_i32_1394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1393 : BitVec 32 := 4#32
  let v1479 : BitVec 32 := Scalar.muli v2 c4_i32_1393
  let v1480 : BitVec 32 := Scalar.addi c0_i32_1394 v1479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1395 : BitVec 32 := 2#32
  let v1481 : BitVec 32 := Scalar.muli v5 c2_i32_1395
  let v1482 : BitVec 32 := Scalar.addi v1480 v1481
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1396 : BitVec 32 := 1#32
  let v1483 : BitVec 32 := Scalar.muli v26 c1_i32_1396
  let v1484 : BitVec 32 := Scalar.addi v1482 v1483
  v1484.toNat
def k0_dev25 (d0 : Dev nD) : Nat :=
  let c0_i32_1404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1403 : BitVec 32 := 4#32
  let v1491 : BitVec 32 := Scalar.muli v2 c4_i32_1403
  let v1492 : BitVec 32 := Scalar.addi c0_i32_1404 v1491
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1405 : BitVec 32 := 2#32
  let v1493 : BitVec 32 := Scalar.muli v25 c2_i32_1405
  let v1494 : BitVec 32 := Scalar.addi v1492 v1493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1406 : BitVec 32 := 1#32
  let v1495 : BitVec 32 := Scalar.muli v8 c1_i32_1406
  let v1496 : BitVec 32 := Scalar.addi v1494 v1495
  v1496.toNat
def k0_dev26 (d0 : Dev nD) : Nat :=
  let c0_i32_1430 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1429 : BitVec 32 := 4#32
  let v1520 : BitVec 32 := Scalar.muli v2 c4_i32_1429
  let v1521 : BitVec 32 := Scalar.addi c0_i32_1430 v1520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1431 : BitVec 32 := 2#32
  let v1522 : BitVec 32 := Scalar.muli v5 c2_i32_1431
  let v1523 : BitVec 32 := Scalar.addi v1521 v1522
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1432 : BitVec 32 := 1#32
  let v1524 : BitVec 32 := Scalar.muli v26 c1_i32_1432
  let v1525 : BitVec 32 := Scalar.addi v1523 v1524
  v1525.toNat
def k0_dev27 (d0 : Dev nD) : Nat :=
  let c0_i32_1440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1439 : BitVec 32 := 4#32
  let v1532 : BitVec 32 := Scalar.muli v2 c4_i32_1439
  let v1533 : BitVec 32 := Scalar.addi c0_i32_1440 v1532
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1441 : BitVec 32 := 2#32
  let v1534 : BitVec 32 := Scalar.muli v25 c2_i32_1441
  let v1535 : BitVec 32 := Scalar.addi v1533 v1534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1442 : BitVec 32 := 1#32
  let v1536 : BitVec 32 := Scalar.muli v8 c1_i32_1442
  let v1537 : BitVec 32 := Scalar.addi v1535 v1536
  v1537.toNat
def k0_off10 (d0 : Dev nD) (c0_i32_1456 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c32768_i32_4 : BitVec 32 := 32768#32
  let v11 : BitVec 32 := Scalar.muli v10 c32768_i32_4
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c8192_i32_1455 : BitVec 32 := 8192#32
  let v1554 : BitVec 32 := Scalar.muli v16 c8192_i32_1455
  let v1555 : BitVec 32 := Scalar.addi v1554 c0_i32_1456
  let v1556 : BitVec 32 := Scalar.addi v11 v1555
  let c0_i32_1459 : BitVec 32 := 0#32
  ![v1556.toNat, 0]
def k0_dev28 (d0 : Dev nD) : Nat :=
  let c0_i32_1514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1513 : BitVec 32 := 4#32
  let v1612 : BitVec 32 := Scalar.muli v2 c4_i32_1513
  let v1613 : BitVec 32 := Scalar.addi c0_i32_1514 v1612
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1515 : BitVec 32 := 2#32
  let v1614 : BitVec 32 := Scalar.muli v25 c2_i32_1515
  let v1615 : BitVec 32 := Scalar.addi v1613 v1614
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1516 : BitVec 32 := 1#32
  let v1616 : BitVec 32 := Scalar.muli v8 c1_i32_1516
  let v1617 : BitVec 32 := Scalar.addi v1615 v1616
  v1617.toNat
def k0_dev29 (d0 : Dev nD) : Nat :=
  let c0_i32_1540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1539 : BitVec 32 := 4#32
  let v1641 : BitVec 32 := Scalar.muli v2 c4_i32_1539
  let v1642 : BitVec 32 := Scalar.addi c0_i32_1540 v1641
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1541 : BitVec 32 := 2#32
  let v1643 : BitVec 32 := Scalar.muli v25 c2_i32_1541
  let v1644 : BitVec 32 := Scalar.addi v1642 v1643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1542 : BitVec 32 := 1#32
  let v1645 : BitVec 32 := Scalar.muli v8 c1_i32_1542
  let v1646 : BitVec 32 := Scalar.addi v1644 v1645
  v1646.toNat
def k0_dev30 (d0 : Dev nD) : Nat :=
  let c0_i32_1566 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1565 : BitVec 32 := 4#32
  let v1670 : BitVec 32 := Scalar.muli v2 c4_i32_1565
  let v1671 : BitVec 32 := Scalar.addi c0_i32_1566 v1670
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2_i32_1567 : BitVec 32 := 2#32
  let v1672 : BitVec 32 := Scalar.muli v25 c2_i32_1567
  let v1673 : BitVec 32 := Scalar.addi v1671 v1672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1568 : BitVec 32 := 1#32
  let v1674 : BitVec 32 := Scalar.muli v8 c1_i32_1568
  let v1675 : BitVec 32 := Scalar.addi v1673 v1674
  v1675.toNat
def k0_off11 (d0 : Dev nD) (c0_i32_1614 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c32768_i32_4 : BitVec 32 := 32768#32
  let v11 : BitVec 32 := Scalar.muli v10 c32768_i32_4
  let c2_i32_9 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c8192_i32_1613 : BitVec 32 := 8192#32
  let v1726 : BitVec 32 := Scalar.muli v19 c8192_i32_1613
  let v1727 : BitVec 32 := Scalar.addi v1726 c0_i32_1614
  let v1728 : BitVec 32 := Scalar.addi v11 v1727
  let c0_i32_1617 : BitVec 32 := 0#32
  ![v1728.toNat, 0]
def k0_dev31 (d0 : Dev nD) : Nat :=
  let c0_i32_1720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1719 : BitVec 32 := 4#32
  let v1835 : BitVec 32 := Scalar.muli v2 c4_i32_1719
  let v1836 : BitVec 32 := Scalar.addi c0_i32_1720 v1835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1721 : BitVec 32 := 2#32
  let v1837 : BitVec 32 := Scalar.muli v5 c2_i32_1721
  let v1838 : BitVec 32 := Scalar.addi v1836 v1837
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1722 : BitVec 32 := 1#32
  let v1839 : BitVec 32 := Scalar.muli v26 c1_i32_1722
  let v1840 : BitVec 32 := Scalar.addi v1838 v1839
  v1840.toNat
def k0_dev32 (d0 : Dev nD) : Nat :=
  let c0_i32_1746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1745 : BitVec 32 := 4#32
  let v1864 : BitVec 32 := Scalar.muli v2 c4_i32_1745
  let v1865 : BitVec 32 := Scalar.addi c0_i32_1746 v1864
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1747 : BitVec 32 := 2#32
  let v1866 : BitVec 32 := Scalar.muli v5 c2_i32_1747
  let v1867 : BitVec 32 := Scalar.addi v1865 v1866
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_15 v8
  let c1_i32_1748 : BitVec 32 := 1#32
  let v1868 : BitVec 32 := Scalar.muli v26 c1_i32_1748
  let v1869 : BitVec 32 := Scalar.addi v1867 v1868
  v1869.toNat
def k0_off12 (d0 : Dev nD) (c0_i32_1762 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c32768_i32_4 : BitVec 32 := 32768#32
  let v11 : BitVec 32 := Scalar.muli v10 c32768_i32_4
  let c2_i32_11 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let v21 : BitVec 32 := Scalar.muli c2_i32_11 v20
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_12 v8
  let v23 : BitVec 32 := Scalar.addi v21 v22
  let c8192_i32_1761 : BitVec 32 := 8192#32
  let v1886 : BitVec 32 := Scalar.muli v23 c8192_i32_1761
  let v1887 : BitVec 32 := Scalar.addi v1886 c0_i32_1762
  let v1888 : BitVec 32 := Scalar.addi v11 v1887
  let c0_i32_1765 : BitVec 32 := 0#32
  ![v1888.toNat, 0]
-- ==== Reference.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Loop.lean ====
/-
  The kernel's body as loops. The printed body is a straight line of some four hundred operations; here the same
  operations are written as loops over chunks, with the chunk, the slot and the semaphore as parameters, and
  `body_eq` says that the printed body is that program.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-! ## Offsets

A quarter of a device's half is named by its relation to the device: 0 its own, 1 the diagonal one, 2 the quarter of
its z neighbour, 3 that of its y neighbour. -/

/-- The first row of chunk `r` of quarter `g`, as printed, in an array of one half's rows. -/
def smallOff (d : Dev nD) : Fin 4 → BitVec 32 → Fin 2 → ℕ
  | 0 => k0_off1 d
  | 1 => k0_off3 d
  | 2 => k0_off5 d
  | 3 => k0_off7 d

/-- The first row of chunk `r` of quarter `g` of the device's own half, as printed. -/
def mineOff (d : Dev nD) : Fin 4 → BitVec 32 → Fin 2 → ℕ
  | 0 => k0_off2 d
  | 1 => k0_off4 d
  | 2 => k0_off6 d
  | 3 => k0_off8 d

/-- The first row of chunk `r` of quarter `g` of the other half, as printed. -/
def otherOff (d : Dev nD) : Fin 4 → BitVec 32 → Fin 2 → ℕ
  | 0 => k0_off9 d
  | 1 => k0_off12 d
  | 2 => k0_off10 d
  | 3 => k0_off11 d

abbrev word (r : Fin 8) : BitVec 32 := BitVec.ofNat 32 (1024 * r.val)

theorem small_inb (d : Dev nD) (g : Fin 4) (r : Fin 8) :
    ∀ a, smallOff d g (word r) a + S1024x1024.size a ≤ S32768x1024.size a :=
  match g with
  | 0 => k0_off1_inb d r
  | 1 => k0_off3_inb d r
  | 2 => k0_off5_inb d r
  | 3 => k0_off7_inb d r

theorem mine_inb (d : Dev nD) (g : Fin 4) (r : Fin 8) :
    ∀ a, mineOff d g (word r) a + S1024x1024.size a ≤ S65536x1024.size a :=
  match g with
  | 0 => k0_off2_inb d r
  | 1 => k0_off4_inb d r
  | 2 => k0_off6_inb d r
  | 3 => k0_off8_inb d r

theorem other_inb (d : Dev nD) (g : Fin 4) (r : Fin 8) :
    ∀ a, otherOff d g (word r) a + S1024x1024.size a ≤ S65536x1024.size a :=
  match g with
  | 0 => k0_off9_inb d r
  | 1 => k0_off12_inb d r
  | 2 => k0_off10_inb d r
  | 3 => k0_off11_inb d r

theorem small_words (d : Dev nD) (g : Fin 4) (r : Fin 8) :
    (Rect.unit (s := S32768x1024) (smallOff d g (word r)) S1024x1024.size (small_inb d g r)).WholeWords (EltTy.packing .bf16) :=
  match g with
  | 0 => k0_off1_wordsbf16 d r
  | 1 => k0_off3_wordsbf16 d r
  | 2 => k0_off5_wordsbf16 d r
  | 3 => k0_off7_wordsbf16 d r

theorem mine_words (d : Dev nD) (g : Fin 4) (r : Fin 8) :
    (Rect.unit (s := S65536x1024) (mineOff d g (word r)) S1024x1024.size (mine_inb d g r)).WholeWords (EltTy.packing .bf16) :=
  match g with
  | 0 => k0_off2_wordsbf16 d r
  | 1 => k0_off4_wordsbf16 d r
  | 2 => k0_off6_wordsbf16 d r
  | 3 => k0_off8_wordsbf16 d r

theorem other_words (d : Dev nD) (g : Fin 4) (r : Fin 8) :
    (Rect.unit (s := S65536x1024) (otherOff d g (word r)) S1024x1024.size (other_inb d g r)).WholeWords (EltTy.packing .bf16) :=
  match g with
  | 0 => k0_off9_wordsbf16 d r
  | 1 => k0_off12_wordsbf16 d r
  | 2 => k0_off10_wordsbf16 d r
  | 3 => k0_off11_wordsbf16 d r

theorem slot_inb (s : Fin 2) : ∀ a, (![s.val, 0, 0] : Fin 3 → ℕ) a + S1x1024x1024.size a ≤ S2x1024x1024.size a :=
  match s with
  | 0 => inb_S2x1024x1024_S1x1024x1024_0_0_0
  | 1 => inb_S2x1024x1024_S1x1024x1024_1_0_0

theorem slot_words (s : Fin 2) :
    (Rect.unit (s := S2x1024x1024) ![s.val, 0, 0] S1x1024x1024.size (slot_inb s)).WholeWords (EltTy.packing .bf16) :=
  match s with
  | 0 => wordsbf16_S2x1024x1024_S1x1024x1024_0_0_0
  | 1 => wordsbf16_S2x1024x1024_S1x1024x1024_1_0_0

theorem slot_packed (s : Fin 2) :
    (Rect.unit (s := S2x1024x1024) ![s.val, 0, 0] S1x1024x1024.size (slot_inb s)).PackedRows (EltTy.packing .bf16) :=
  match s with
  | 0 => packedbf16_S2x1024x1024_S1x1024x1024_0_0_0
  | 1 => packedbf16_S2x1024x1024_S1x1024x1024_1_0_0

theorem sem2_inb (s : Fin 2) : ∀ a, (![s.val] : Fin 1 → ℕ) a + S1.size a ≤ S2.size a :=
  match s with
  | 0 => inb_S2_S1_0
  | 1 => inb_S2_S1_1

theorem sem48_inb : ∀ (p : Fin 6) (k : Fin 8), ∀ a, (![p.val, k.val] : Fin 2 → ℕ) a + S1x1.size a ≤ S6x8.size a := by decide

/-! ## The references -/

abbrev xRef : Memref sig .tc .hbm S32768x1024 .bf16 := Memref.whole main_arg0
abbrev oRef : Memref sig .tc .hbm S65536x1024 .bf16 := Memref.whole main_v1_0
abbrev rRef : Memref sig .tc .hbm S32768x1024 .bf16 := Memref.whole main_v1_1
abbrev viRef : Memref sig .tc .vmem S2x1024x1024 .bf16 := Memref.whole cc0_scratch0
abbrev voRef : Memref sig .tc .vmem S2x1024x1024 .bf16 := Memref.whole cc0_scratch1

/-- Chunk `r` of quarter `g` of the device's operand. -/
abbrev xC (d : Dev nD) (g : Fin 4) (r : Fin 8) : Memref sig .tc .hbm S1024x1024 .bf16 :=
  xRef.slice (Rect.unit (s := S32768x1024) (smallOff d g (word r)) S1024x1024.size (small_inb d g r)) (fun _ => rfl)
/-- Chunk `r` of quarter `g` of the receive buffer. -/
abbrev rC (d : Dev nD) (g : Fin 4) (r : Fin 8) : Memref sig .tc .hbm S1024x1024 .bf16 :=
  rRef.slice (Rect.unit (s := S32768x1024) (smallOff d g (word r)) S1024x1024.size (small_inb d g r)) (fun _ => rfl)
/-- Chunk `r` of quarter `g` of the device's own half of the result. -/
abbrev mC (d : Dev nD) (g : Fin 4) (r : Fin 8) : Memref sig .tc .hbm S1024x1024 .bf16 :=
  oRef.slice (Rect.unit (s := S65536x1024) (mineOff d g (word r)) S1024x1024.size (mine_inb d g r)) (fun _ => rfl)
/-- Chunk `r` of quarter `g` of the other half of the result. -/
abbrev tC (d : Dev nD) (g : Fin 4) (r : Fin 8) : Memref sig .tc .hbm S1024x1024 .bf16 :=
  oRef.slice (Rect.unit (s := S65536x1024) (otherOff d g (word r)) S1024x1024.size (other_inb d g r)) (fun _ => rfl)
abbrev slotRect (s : Fin 2) : Rect S2x1024x1024 :=
  Rect.unit (s := S2x1024x1024) ![s.val, 0, 0] S1x1024x1024.size (slot_inb s)
/-- Slot `s` of the staging buffer the operand's chunks are read into. -/
abbrev viC (s : Fin 2) : Memref sig .tc .vmem S1024x1024 .bf16 :=
  (viRef.slice (slotRect s) (fun _ => rfl)).squeeze S1024x1024 squeezes_S1x1024x1024_S1024x1024
/-- Slot `s` of the staging buffer the result's chunks are written from. -/
abbrev voC (s : Fin 2) : Memref sig .tc .vmem S1024x1024 .bf16 :=
  (voRef.slice (slotRect s) (fun _ => rfl)).squeeze S1024x1024 squeezes_S1x1024x1024_S1024x1024

theorem wx (d : Dev nD) (g : Fin 4) (r : Fin 8) : (xC d g r).view.WordExact :=
  (Memref.isWhole_whole main_arg0).wordExact_slice rfl _ (small_words d g r)
theorem wr (d : Dev nD) (g : Fin 4) (r : Fin 8) : (rC d g r).view.WordExact :=
  (Memref.isWhole_whole main_v1_1).wordExact_slice rfl _ (small_words d g r)
theorem wm (d : Dev nD) (g : Fin 4) (r : Fin 8) : (mC d g r).view.WordExact :=
  (Memref.isWhole_whole main_v1_0).wordExact_slice rfl _ (mine_words d g r)
theorem wt (d : Dev nD) (g : Fin 4) (r : Fin 8) : (tC d g r).view.WordExact :=
  (Memref.isWhole_whole main_v1_0).wordExact_slice rfl _ (other_words d g r)
theorem wvi (s : Fin 2) : (viC s).view.WordExact :=
  ((Memref.isWhole_whole cc0_scratch0).wordExact_slice rfl _ (slot_words s)).reshape _ _
theorem wvo (s : Fin 2) : (voC s).view.WordExact :=
  ((Memref.isWhole_whole cc0_scratch1).wordExact_slice rfl _ (slot_words s)).reshape _ _

/-! ## The semaphores -/

abbrev inS (s : Fin 2) : DmaSem sig := ((cc0_scratch2.slice (Rect.unit (s := S2) ![s.val] S1.size (sem2_inb s))).squeeze S_ squeezes_S1_S_).sem
abbrev outS (s : Fin 2) : DmaSem sig := ((cc0_scratch3.slice (Rect.unit (s := S2) ![s.val] S1.size (sem2_inb s))).squeeze S_ squeezes_S1_S_).sem
abbrev locS (p : Fin 6) (k : Fin 8) : DmaSem sig := ((cc0_scratch4.slice (Rect.unit (s := S6x8) ![p.val, k.val] S1x1.size (sem48_inb p k))).squeeze S_ squeezes_S1x1_S_).sem
abbrev sndS (p : Fin 6) (k : Fin 8) : DmaSem sig := ((cc0_scratch5.slice (Rect.unit (s := S6x8) ![p.val, k.val] S1x1.size (sem48_inb p k))).squeeze S_ squeezes_S1x1_S_).sem
abbrev rcvS (p : Fin 6) (k : Fin 8) : DmaSem sig := ((cc0_scratch6.slice (Rect.unit (s := S6x8) ![p.val, k.val] S1x1.size (sem48_inb p k))).squeeze S_ squeezes_S1x1_S_).sem

/-! ## The operations -/

abbrev Op (F : FTy → Type) [FloatOps F] : Type 1 := Prog (TpuEff nD τ sig (Elt F) Λ₀ .tc) PUnit

/-- A chunk of the operand starts towards a staging slot. -/
abbrev inStart (d : Dev nD) (g : Fin 4) (r : Fin 8) (s : Fin 2) : Op F :=
  Prog.lift (.enqueueDma (xC d g r) (.here (viC s)) (.dma (inS s)) (wx d g r) (wvi s) ⟨Or.inl rfl, trivial⟩)
abbrev inWait (d : Dev nD) (g : Fin 4) (r : Fin 8) (s : Fin 2) : Op F :=
  Prog.lift (.waitDma2 (inS s) (xC d g r) (viC s) (wx d g r) (wvi s))
/-- One slot copied from the one staging buffer to the other. -/
abbrev castOp (s : Fin 2) : Op F := do
  let v : Vec F S1x1024x1024 .bf16 ← Prog.lift (.load viRef (slotRect s).toLoadRect (View.loadsAt_vmem Gen.h_S1x1024x1024))
  let _ : Vec F S1x1024x1024 .bf16 ← Prog.lift (.load voRef (slotRect s).toLoadRect (View.loadsAt_vmem Gen.h_S1x1024x1024))
  Prog.lift (.store voRef (slotRect s) (Gen.k0_pay1 v) Finset.univ
    (View.stores_vmem Gen.h_S1x1024x1024 ((Memref.isWhole_whole cc0_scratch1).storeExact_slice rfl _ (slot_packed s)) (fun _ => rfl)) (.inl rfl))
abbrev outStart (d : Dev nD) (g : Fin 4) (r : Fin 8) (s : Fin 2) : Op F :=
  Prog.lift (.enqueueDma (voC s) (.here (mC d g r)) (.dma (outS s)) (wvo s) (wm d g r) ⟨Or.inl rfl, trivial⟩)
abbrev outWait (d : Dev nD) (g : Fin 4) (r : Fin 8) (s : Fin 2) : Op F :=
  Prog.lift (.waitDma2 (outS s) (voC s) (mC d g r) (wvo s) (wm d g r))

abbrev xDev (d : Dev nD) : Dev nD := ⟨k0_dev1 d, Facts₀.k0_dev1_lt d⟩
abbrev zDev (d : Dev nD) : Dev nD := ⟨k0_dev12 d, Facts₀.k0_dev12_lt d⟩
abbrev yDev (d : Dev nD) : Dev nD := ⟨k0_dev13 d, Facts₀.k0_dev13_lt d⟩

/-- A chunk of the device's own half goes to its x neighbour's receive buffer. -/
abbrev sendM (d : Dev nD) (p : Fin 6) (g : Fin 4) (k : Fin 8) : Op F :=
  Prog.lift (.enqueueDma (mC d g k) (.remote (Dev.tc (xDev d)) (rC d g k) (.dma (sndS p k))) (.dma (rcvS p k))
    (wm d g k) (wr d g k) ⟨⟨rfl, Or.inl rfl⟩, trivial⟩)
/-- A chunk of the receive buffer goes to the same place on device `n`. -/
abbrev sendR (d n : Dev nD) (p : Fin 6) (g : Fin 4) (k : Fin 8) : Op F :=
  Prog.lift (.enqueueDma (rC d g k) (.remote (Dev.tc n) (rC d g k) (.dma (sndS p k))) (.dma (rcvS p k))
    (wr d g k) (wr d g k) ⟨⟨rfl, Or.inl rfl⟩, trivial⟩)
abbrev recvWaitM (d : Dev nD) (p : Fin 6) (g : Fin 4) (k : Fin 8) : Op F :=
  Prog.lift (.waitDma2 (rcvS p k) (mC d g k) (rC d g k) (wm d g k) (wr d g k))
abbrev recvWaitR (d : Dev nD) (p : Fin 6) (g : Fin 4) (k : Fin 8) : Op F :=
  Prog.lift (.waitDma2 (rcvS p k) (rC d g k) (rC d g k) (wr d g k) (wr d g k))
abbrev sendWaitM (d : Dev nD) (p : Fin 6) (g : Fin 4) (k : Fin 8) : Op F :=
  Prog.lift (.waitDma2 (sndS p k) (rC d g k) (mC d g k) (wr d g k) (wm d g k))
abbrev sendWaitR (d : Dev nD) (p : Fin 6) (g : Fin 4) (k : Fin 8) : Op F :=
  Prog.lift (.waitDma2 (sndS p k) (rC d g k) (rC d g k) (wr d g k) (wr d g k))
/-- A chunk of the receive buffer starts towards its place in the other half of the result. -/
abbrev landStart (d : Dev nD) (p : Fin 6) (g : Fin 4) (k : Fin 8) : Op F :=
  Prog.lift (.enqueueDma (rC d g k) (.here (tC d g k)) (.dma (locS p k)) (wr d g k) (wt d g k) ⟨Or.inl rfl, trivial⟩)
abbrev landWait (d : Dev nD) (p : Fin 6) (g : Fin 4) (k : Fin 8) : Op F :=
  Prog.lift (.waitDma2 (locS p k) (rC d g k) (tC d g k) (wr d g k) (wt d g k))

/-! ## The loops -/

/-- `f i`, `f (i+1)`, …, `n` of them, then `k`. -/
def loop (f : ℕ → Op F → Op F) : ℕ → ℕ → Op F → Op F
  | 0, _, k => k
  | n + 1, i, k => f i (loop f n (i + 1) k)

/-- Number `j` of the chunks of the device's own half: its quarter, its place there, its slot. -/
abbrev qOf (j : ℕ) : Fin 4 := ⟨j / 8 % 4, Nat.mod_lt _ (by decide)⟩
abbrev rOf (j : ℕ) : Fin 8 := ⟨j % 8, Nat.mod_lt _ (by decide)⟩
abbrev sOf (j : ℕ) : Fin 2 := ⟨j % 2, Nat.mod_lt _ (by decide)⟩

/-- Chunk `j` of the own quarter: staged, written out, and sent to the x neighbour. -/
def stepA (d : Dev nD) (j : ℕ) (k : Op F) : Op F := do
  inStart d (qOf (j + 1)) (rOf (j + 1)) (sOf (j + 1))
  inWait d (qOf j) (rOf j) (sOf j)
  castOp (sOf j)
  outStart d (qOf j) (rOf j) (sOf j)
  outWait d (qOf j) (rOf j) (sOf j)
  sendM d 0 0 (rOf j)
  k
/-- Chunk `j` of the diagonal quarter, when it too goes to the x neighbour. -/
def stepB (d : Dev nD) (j : ℕ) (k : Op F) : Op F := do
  inStart d (qOf (j + 1)) (rOf (j + 1)) (sOf (j + 1))
  inWait d (qOf j) (rOf j) (sOf j)
  castOp (sOf j)
  outStart d (qOf j) (rOf j) (sOf j)
  outWait d (qOf j) (rOf j) (sOf j)
  sendM d 1 1 (rOf j)
  k
/-- A chunk that is not sent, its slot free. -/
def stepC (d : Dev nD) (j : ℕ) (k : Op F) : Op F := do
  inStart d (qOf (j + 1)) (rOf (j + 1)) (sOf (j + 1))
  inWait d (qOf j) (rOf j) (sOf j)
  castOp (sOf j)
  outStart d (qOf j) (rOf j) (sOf j)
  k
/-- A chunk that is not sent, its slot still being written out. -/
def stepD (d : Dev nD) (j : ℕ) (k : Op F) : Op F := do
  inStart d (qOf (j + 1)) (rOf (j + 1)) (sOf (j + 1))
  inWait d (qOf j) (rOf j) (sOf j)
  outWait d (qOf (j - 2)) (rOf (j - 2)) (sOf (j - 2))
  castOp (sOf j)
  outStart d (qOf j) (rOf j) (sOf j)
  k
/-- The last chunk, and the two slots drained. -/
def stepE (d : Dev nD) (k : Op F) : Op F := do
  inWait d 3 7 1
  outWait d 3 5 1
  castOp 1
  outStart d 3 7 1
  outWait d 3 6 0
  outWait d 3 7 1
  k

/-- A chunk of the own quarter arrives, is written out and goes on to the z and y neighbours. -/
def step2 (d : Dev nD) (j : ℕ) (k : Op F) : Op F := do
  recvWaitM d 0 0 (rOf j)
  landStart d 0 0 (rOf j)
  sendR d (zDev d) 2 0 (rOf j)
  sendR d (yDev d) 3 0 (rOf j)
  k
/-- A chunk arrives from the neighbour of phase `p` (quarter `g`) and is written out. -/
def stepL (d : Dev nD) (p : Fin 6) (g : Fin 4) (j : ℕ) (k : Op F) : Op F := do
  recvWaitR d p 0 (rOf j)
  landStart d p g (rOf j)
  k
/-- As `stepL`, and the chunk goes on to device `n` in phase `p'`. -/
def stepF (d n : Dev nD) (p p' : Fin 6) (g : Fin 4) (j : ℕ) (k : Op F) : Op F := do
  recvWaitR d p 0 (rOf j)
  landStart d p g (rOf j)
  sendR d n p' g (rOf j)
  k
/-- A chunk of the diagonal quarter arrives from the x neighbour and is written out. -/
def step5x (d : Dev nD) (j : ℕ) (k : Op F) : Op F := do
  recvWaitM d 1 1 (rOf j)
  landStart d 1 1 (rOf j)
  k
/-- A chunk of the diagonal quarter arrives in phase `p`, the wait naming quarter `g`, and is written out. -/
def step5 (d : Dev nD) (p : Fin 6) (g : Fin 4) (j : ℕ) (k : Op F) : Op F := do
  recvWaitR d p g (rOf j)
  landStart d p 1 (rOf j)
  k
def stepW (d : Dev nD) (p : Fin 6) (g : Fin 4) (j : ℕ) (k : Op F) : Op F := do
  landWait d p g (rOf j)
  k
def stepSM (d : Dev nD) (p : Fin 6) (g : Fin 4) (j : ℕ) (k : Op F) : Op F := do
  sendWaitM d p g (rOf j)
  k
def stepSR (d : Dev nD) (p : Fin 6) (g : Fin 4) (j : ℕ) (k : Op F) : Op F := do
  sendWaitR d p g (rOf j)
  k
def stepS2 (d : Dev nD) (j : ℕ) (k : Op F) : Op F := do
  sendWaitR d 2 0 (rOf j)
  sendWaitR d 3 0 (rOf j)
  k

/-- The first part: the device's own half written out, eleven chunks of it sent. -/
def part1 (d : Dev nD) (k : Op F) : Op F := do
  inStart d 0 0 0
  loop (stepA d) 8 0 <| loop (stepB d) 3 8 <| loop (stepC d) 2 11 <| loop (stepD d) 18 13 <| stepE d k
/-- The second: what arrives is written out and sent on. -/
def part2 (d : Dev nD) (k : Op F) : Op F :=
  loop (step2 d) 8 0 <|
  loop (stepL d 2 2) 3 0 <| loop (stepF d (yDev d) 2 4 2) 3 3 <| loop (stepL d 2 2) 2 6 <|
  loop (stepL d 3 3) 6 0 <| loop (stepF d (zDev d) 3 5 3) 2 6 <|
  loop (step5x d) 3 0 <| loop (step5 d 4 2) 3 3 <| loop (step5 d 5 3) 2 6 k
/-- The third: every copy waited for. -/
def part3 (d : Dev nD) (k : Op F) : Op F :=
  loop (stepW d 0 0) 8 0 <| loop (stepW d 2 2) 8 0 <| loop (stepW d 3 3) 8 0 <|
  loop (stepW d 1 1) 3 0 <| loop (stepW d 4 1) 3 3 <| loop (stepW d 5 1) 2 6 <|
  loop (stepSM d 0 0) 8 0 <| loop (stepSM d 1 1) 3 0 <| loop (stepS2 d) 8 0 <|
  loop (stepSR d 4 2) 3 3 <| loop (stepSR d 5 3) 2 6 k

/-- The whole body. -/
def prog : Op F := Prog.op .deviceId fun d => part1 d (part2 d (part3 d (Prog.ret ⟨⟩)))

set_option maxRecDepth 100000 in
theorem body_eq (t : Fin cfg0.N) : bodyAt0 (F := F) t = prog := rfl

end Cert.Proof

end
-- ==== Proof.Mesh.lean ====
/-
  The mesh and the contents: who neighbours whom, which rows a chunk is, and what every buffer holds once its copies
  have landed. A device is `4 x + 2 y + z`; its own quarter of a half is number `2 y + z`. All of it is about indices
  and functions: no resource appears here.
-/
module

public import proofs.«01_k».proof.Proof.Loop
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-! ## Neighbours -/

set_option backward.proofsInPublic true in
/-- The neighbour across x, -/
def xN (d : Dev nD) : Dev nD := ⟨(d.val + 4) % 8, Nat.mod_lt _ (by decide)⟩
set_option backward.proofsInPublic true in
/-- across y, -/
def yN (d : Dev nD) : Dev nD := ⟨4 * (d.val / 4) + (d.val + 2) % 4, by have : d.val < 8 := d.isLt; show _ < 8; omega⟩
set_option backward.proofsInPublic true in
/-- and across z. -/
def zN (d : Dev nD) : Dev nD := ⟨2 * (d.val / 2) + (d.val + 1) % 2, by have : d.val < 8 := d.isLt; show _ < 8; omega⟩

theorem xDev_eq : ∀ d : Dev nD, xDev d = xN d := by decide +kernel
theorem yDev_eq : ∀ d : Dev nD, yDev d = yN d := by decide +kernel
theorem zDev_eq : ∀ d : Dev nD, zDev d = zN d := by decide +kernel

/-- The phases' directions: 0 and 1 go across x, 2 and 5 across z, 3 and 4 across y. -/
def nbr (p : Fin 6) (d : Dev nD) : Dev nD := (![xN d, xN d, zN d, yN d, yN d, zN d] : Fin 6 → Dev nD) p

theorem nbr_nbr : ∀ (p : Fin 6) (d : Dev nD), nbr p (nbr p d) = d := by decide +kernel

/-- The quarter a phase sends, by its relation to the sender, -/
def sg (p : Fin 6) : Fin 4 := (![0, 1, 0, 0, 2, 3] : Fin 6 → Fin 4) p
/-- and by its relation to the receiver. -/
def rg (p : Fin 6) : Fin 4 := (![0, 1, 2, 3, 1, 1] : Fin 6 → Fin 4) p

/-! ## Rows

Rows are counted in blocks of 1024: 32 to a half, 8 to a quarter. -/

/-- The block that is chunk `r` of quarter `g`. -/
def blk (d : Dev nD) (g : Fin 4) (r : Fin 8) : ℕ := 8 * ((d.val % 4) ^^^ (![0, 3, 1, 2] : Fin 4 → ℕ) g) + r.val

/-- The quarter a block is in, by its relation to the device. -/
def gOf (d : Dev nD) (b : ℕ) : Fin 4 :=
  if (b / 8) = d.val % 4 then 0 else if (b / 8) = (d.val % 4) ^^^ 1 then 2 else if (b / 8) = (d.val % 4) ^^^ 2 then 3 else 1

theorem small_row : ∀ (d : Dev nD) (g : Fin 4) (r : Fin 8), smallOff d g (word r) = ![1024 * blk d g r, 0] := by decide +kernel
theorem mine_row : ∀ (d : Dev nD) (g : Fin 4) (r : Fin 8),
    mineOff d g (word r) = ![1024 * (32 * (d.val / 4) + blk d g r), 0] := by decide +kernel
theorem other_row : ∀ (d : Dev nD) (g : Fin 4) (r : Fin 8),
    otherOff d g (word r) = ![1024 * (32 * (1 - d.val / 4) + blk d g r), 0] := by decide +kernel

theorem blk_lt : ∀ (d : Dev nD) (g : Fin 4) (r : Fin 8), blk d g r < 32 := by decide +kernel
theorem blk_mod (d : Dev nD) (g : Fin 4) (r : Fin 8) : blk d g r % 8 = r.val := by
  have := r.isLt; unfold blk; omega
theorem gOf_blk : ∀ (d : Dev nD) (g : Fin 4) (r : Fin 8), gOf d (blk d g r) = g := by decide +kernel
theorem blk_inj (d : Dev nD) {g g' : Fin 4} {r r' : Fin 8} (h : blk d g r = blk d g' r') : g = g' ∧ r = r' :=
  ⟨by rw [← gOf_blk d g r, h, gOf_blk], Fin.ext (by rw [← blk_mod d g r, h, blk_mod])⟩
theorem blk_onto : ∀ (d : Dev nD) (b : Fin 32), ∃ (g : Fin 4) (r : Fin 8), blk d g r = b.val := by decide +kernel
/-- A phase's quarter is one quarter, whichever end names it. -/
theorem blk_nbr : ∀ (p : Fin 6) (d : Dev nD) (r : Fin 8), blk (nbr p d) (rg p) r = blk d (sg p) r := by decide +kernel

/-! ## What the buffers end up holding -/

/-- The device whose operand chunk `r` of quarter `g` of device `d`'s receive buffer comes from. -/
def src (d : Dev nD) (g : Fin 4) (r : Fin 8) : Dev nD :=
  match g with
  | 0 => xN d
  | 1 => if r.val < 3 then xN d else if r.val < 6 then xN (zN (yN d)) else xN (yN (zN d))
  | 2 => xN (zN d)
  | 3 => xN (yN d)

/-- An array of one half's rows, and one of the whole result's. -/
abbrev Half (F : FTy → Type) [FloatOps F] : Type := S32768x1024.Idx → Elt F .bf16
abbrev Full (F : FTy → Type) [FloatOps F] : Type := S65536x1024.Idx → Elt F .bf16

variable (X : Dev nD → Half F)

/-- The receive buffer's contents at the end. -/
def Rv (d : Dev nD) : Half F := fun i =>
  X (src d (gOf d ((i 0).val / 1024)) ⟨(i 0).val / 1024 % 8, Nat.mod_lt _ (by decide)⟩) i

/-- A row of the result as a row of the half it is in. -/
def toHalf (i : S65536x1024.Idx) : S32768x1024.Idx := fun a =>
  match a with
  | ⟨0, _⟩ => ⟨(i 0).val % 32768, Nat.mod_lt _ (by decide)⟩
  | ⟨1, _⟩ => i 1

/-- The result's: the device's own half is its operand, the other its receive buffer. -/
def Ov (d : Dev nD) : Full F := fun i =>
  if (i 0).val / 32768 = d.val / 4 then X d (toHalf i) else Rv X d (toHalf i)

/-! ### Chunks, index by index -/

section Chunks
variable (d : Dev nD) (g : Fin 4) (r : Fin 8) (j : S1024x1024.Idx)

theorem x_emb : (xC d g r).view.emb j = (rC d g r).view.emb j := rfl

theorem r_emb0 : (((rC d g r).view.emb j : S32768x1024.Idx) 0).val = 1024 * blk d g r + (j 0).val := by
  show smallOff d g (word r) 0 + 1 * (j 0).val = _
  rw [small_row]; simp
theorem r_emb1 : (((rC d g r).view.emb j : S32768x1024.Idx) 1).val = (j 1).val := by
  show smallOff d g (word r) 1 + 1 * (j 1).val = _
  rw [small_row]; simp
theorem m_emb0 : (((mC d g r).view.emb j : S65536x1024.Idx) 0).val = 1024 * (32 * (d.val / 4) + blk d g r) + (j 0).val := by
  show mineOff d g (word r) 0 + 1 * (j 0).val = _
  rw [mine_row]; simp
theorem m_emb1 : (((mC d g r).view.emb j : S65536x1024.Idx) 1).val = (j 1).val := by
  show mineOff d g (word r) 1 + 1 * (j 1).val = _
  rw [mine_row]; simp
theorem t_emb0 : (((tC d g r).view.emb j : S65536x1024.Idx) 0).val = 1024 * (32 * (1 - d.val / 4) + blk d g r) + (j 0).val := by
  show otherOff d g (word r) 0 + 1 * (j 0).val = _
  rw [other_row]; simp
theorem t_emb1 : (((tC d g r).view.emb j : S65536x1024.Idx) 1).val = (j 1).val := by
  show otherOff d g (word r) 1 + 1 * (j 1).val = _
  rw [other_row]; simp

theorem j0_lt : (j 0).val < 1024 := (j 0).isLt

theorem half_ext {a b : S32768x1024.Idx} (h0 : (a 0).val = (b 0).val) (h1 : (a 1).val = (b 1).val) : a = b := by
  funext k
  match k with
  | ⟨0, _⟩ => exact Fin.ext h0
  | ⟨1, _⟩ => exact Fin.ext h1

theorem toHalf_m : toHalf ((mC d g r).view.emb j) = (rC d g r).view.emb j := by
  have hb := blk_lt d g r
  have hj := j0_lt j
  refine half_ext ?_ ?_
  · show ((mC d g r).view.emb j 0).val % 32768 = _
    rw [m_emb0, r_emb0]; omega
  · show ((mC d g r).view.emb j 1).val = _
    rw [m_emb1, r_emb1]
theorem toHalf_t : toHalf ((tC d g r).view.emb j) = (rC d g r).view.emb j := by
  have hb := blk_lt d g r
  have hj := j0_lt j
  refine half_ext ?_ ?_
  · show ((tC d g r).view.emb j 0).val % 32768 = _
    rw [t_emb0, r_emb0]; omega
  · show ((tC d g r).view.emb j 1).val = _
    rw [t_emb1, r_emb1]

/-- The own half's chunk is the operand's. -/
theorem Ov_m : Ov X d ((mC d g r).view.emb j) = X d ((rC d g r).view.emb j) := by
  have hb := blk_lt d g r
  have hj := j0_lt j
  unfold Ov
  rw [if_pos, toHalf_m]
  rw [m_emb0]; omega
/-- The other half's chunk is the receive buffer's. -/
theorem Ov_t : Ov X d ((tC d g r).view.emb j) = Rv X d ((rC d g r).view.emb j) := by
  have hb := blk_lt d g r
  have hj := j0_lt j
  have hd : d.val < 8 := d.isLt
  unfold Ov
  rw [if_neg, toHalf_t]
  rw [t_emb0]; omega

theorem r_emb_div : (((rC d g r).view.emb j : S32768x1024.Idx) 0).val / 1024 = blk d g r := by
  have hj := j0_lt j
  rw [r_emb0]; omega

/-- The receive buffer's chunk on any device `n`, the chunk named from `d`. -/
theorem Rv_chunk (n : Dev nD) : Rv X n ((rC d g r).view.emb j) = X (src n (gOf n (blk d g r)) r) ((rC d g r).view.emb j) := by
  show X (src n (gOf n (((rC d g r).view.emb j 0).val / 1024)) ⟨((rC d g r).view.emb j 0).val / 1024 % 8, _⟩) _ = _
  have h : (⟨((rC d g r).view.emb j 0).val / 1024 % 8, Nat.mod_lt _ (by decide)⟩ : Fin 8) = r :=
    Fin.ext (by show ((rC d g r).view.emb j 0).val / 1024 % 8 = _; rw [r_emb_div, blk_mod])
  rw [h, r_emb_div]

end Chunks

/-- What phase 0 or 1 sends: the sender's operand. -/
theorem Rv_send01 : ∀ (p : Fin 6) (d : Dev nD) (k : Fin 8), p = 0 ∨ (p = 1 ∧ k.val < 3) → src (nbr p d) (gOf (nbr p d) (blk d (sg p) k)) k = d := by
  decide +kernel
/-- What the others send on: what the sender received. -/
theorem Rv_sendR : ∀ (p : Fin 6) (d : Dev nD) (k : Fin 8), p = 2 ∨ p = 3 ∨ (p = 4 ∧ 3 ≤ k.val ∧ k.val < 6) ∨ (p = 5 ∧ 6 ≤ k.val) →
    src (nbr p d) (gOf (nbr p d) (blk d (sg p) k)) k = src d (gOf d (blk d (sg p) k)) k := by
  decide +kernel

theorem Rv_of_M (p : Fin 6) (d : Dev nD) (k : Fin 8) (h : p = 0 ∨ (p = 1 ∧ k.val < 3)) (j : S1024x1024.Idx) :
    Ov X d ((mC d (sg p) k).view.emb j) = Rv X (nbr p d) ((rC d (sg p) k).view.emb j) := by
  rw [Ov_m, Rv_chunk, Rv_send01 p d k h]
theorem Rv_of_R (p : Fin 6) (d : Dev nD) (k : Fin 8) (h : p = 2 ∨ p = 3 ∨ (p = 4 ∧ 3 ≤ k.val ∧ k.val < 6) ∨ (p = 5 ∧ 6 ≤ k.val))
    (j : S1024x1024.Idx) : Rv X d ((rC d (sg p) k).view.emb j) = Rv X (nbr p d) ((rC d (sg p) k).view.emb j) := by
  rw [Rv_chunk, Rv_chunk, Rv_sendR p d k h]

/-! ### Chunks as sets -/

theorem half_mem {off : Fin 2 → ℕ} {b : ℕ} (hoff : off = ![1024 * b, 0]) (inb : ∀ a, off a + S1024x1024.size a ≤ S32768x1024.size a)
    (i : S32768x1024.Idx) : i ∈ (Rect.unit (s := S32768x1024) off S1024x1024.size inb).set ↔ (i 0).val / 1024 = b := by
  have h1 : (i 1).val < 1024 := (i 1).isLt
  rw [Rect.mem_set_unit]
  subst hoff
  constructor
  · intro h
    have h0 := h 0
    simp only [Matrix.cons_val_zero] at h0
    have : S1024x1024.size 0 = 1024 := rfl
    omega
  · intro h a
    match a with
    | ⟨0, _⟩ => show 1024 * b ≤ (i 0).val ∧ (i 0).val < 1024 * b + 1024; omega
    | ⟨1, _⟩ => show 0 ≤ (i 1).val ∧ (i 1).val < 0 + 1024; omega
theorem full_mem {off : Fin 2 → ℕ} {b : ℕ} (hoff : off = ![1024 * b, 0]) (inb : ∀ a, off a + S1024x1024.size a ≤ S65536x1024.size a)
    (i : S65536x1024.Idx) : i ∈ (Rect.unit (s := S65536x1024) off S1024x1024.size inb).set ↔ (i 0).val / 1024 = b := by
  have h1 : (i 1).val < 1024 := (i 1).isLt
  rw [Rect.mem_set_unit]
  subst hoff
  constructor
  · intro h
    have h0 := h 0
    simp only [Matrix.cons_val_zero] at h0
    have : S1024x1024.size 0 = 1024 := rfl
    omega
  · intro h a
    match a with
    | ⟨0, _⟩ => show 1024 * b ≤ (i 0).val ∧ (i 0).val < 1024 * b + 1024; omega
    | ⟨1, _⟩ => show 0 ≤ (i 1).val ∧ (i 1).val < 0 + 1024; omega

/-- A chunk's rows of a half: one block. -/
def hSet (b : ℕ) : Finset S32768x1024.Idx := Finset.univ.filter fun i => (i 0).val / 1024 = b
/-- A block of the whole result. -/
def fSet (b : ℕ) : Finset S65536x1024.Idx := Finset.univ.filter fun i => (i 0).val / 1024 = b

theorem x_set (d : Dev nD) (g : Fin 4) (r : Fin 8) : (xC d g r).view.set = hSet (blk d g r) := by
  refine (View.set_slice_whole main_arg0 _).trans (Finset.ext fun i => ?_)
  exact (half_mem (small_row d g r) _ i).trans (by simp [hSet])
theorem r_set (d : Dev nD) (g : Fin 4) (r : Fin 8) : (rC d g r).view.set = hSet (blk d g r) := by
  refine (View.set_slice_whole main_v1_1 _).trans (Finset.ext fun i => ?_)
  exact (half_mem (small_row d g r) _ i).trans (by simp [hSet])
theorem m_set (d : Dev nD) (g : Fin 4) (r : Fin 8) : (mC d g r).view.set = fSet (32 * (d.val / 4) + blk d g r) := by
  refine (View.set_slice_whole main_v1_0 _).trans (Finset.ext fun i => ?_)
  exact (full_mem (mine_row d g r) _ i).trans (by simp [fSet])
theorem t_set (d : Dev nD) (g : Fin 4) (r : Fin 8) : (tC d g r).view.set = fSet (32 * (1 - d.val / 4) + blk d g r) := by
  refine (View.set_slice_whole main_v1_0 _).trans (Finset.ext fun i => ?_)
  exact (full_mem (other_row d g r) _ i).trans (by simp [fSet])

theorem hSet_disj {b b' : ℕ} (h : b ≠ b') : Disjoint (hSet b) (hSet b') := by
  refine Finset.disjoint_left.mpr fun i hi hi' => h ?_
  rw [← (Finset.mem_filter.mp hi).2, ← (Finset.mem_filter.mp hi').2]
theorem fSet_disj {b b' : ℕ} (h : b ≠ b') : Disjoint (fSet b) (fSet b') := by
  refine Finset.disjoint_left.mpr fun i hi hi' => h ?_
  rw [← (Finset.mem_filter.mp hi).2, ← (Finset.mem_filter.mp hi').2]

end Cert.Proof

end
-- ==== Proof.Common.lean ====
/-
  What the proof's parts share: the resource algebra; the cells of the remote copies, two to a leg (what the sender's
  read-out credits, and what the landing credits); their schedule — one round of one duty each, the landing's payload
  the receive buffer's chunk holding what the leg carries; what a device owes and in which order it pays; the levels.
-/
module

public import proofs.«01_k».proof.Defs
public import proofs.«01_k».proof.Proof.Mesh
public import Idealize.ShloMosaic.Lib.Pipeline.Launch
public import Idealize.ShloMosaic.Lib.Transfers
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra -/

abbrev UR (nD : Nat) (τ : Topo) : Type := URounds (GSem nD τ sig) Unit
/-- The region library's rounds, the legs' rounds, and the local copies' counters. -/
abbrev UU (nD : Nat) (τ : Topo) : Type := UR nD τ × (UR nD τ × Counters)

local notation "𝕄" => MT nD τ sig Unit (Elt F) ℕ (UU nD τ) ℕ

def EP : Emb (UR nD τ) (MT nD τ sig Unit (Elt F) ℕ (UU nD τ) ℕ) :=
  (Emb.inl : Emb (UR nD τ) (UU nD τ)).trans (uEmb (nD := nD) (sig := sig) (Ix := Unit) (Val := Elt F) (Name := ℕ) (U := UU nD τ) (Lvl := ℕ)).toEmb
def ER : Emb (UR nD τ) (MT nD τ sig Unit (Elt F) ℕ (UU nD τ) ℕ) :=
  ((Emb.inl : Emb (UR nD τ) (UR nD τ × Counters)).trans (Emb.inr : Emb (UR nD τ × Counters) (UU nD τ))).trans
    (uEmb (nD := nD) (sig := sig) (Ix := Unit) (Val := Elt F) (Name := ℕ) (U := UU nD τ) (Lvl := ℕ)).toEmb
abbrev EC : UEmb Counters (MT nD τ sig Unit (Elt F) ℕ (UU nD τ) ℕ) := countersEmb

instance EP_landsIn : (EP : Emb (UR nD τ) 𝕄).LandsIn (upEmb : UEmb _ 𝕄) := by unfold EP; infer_instance
instance ER_landsIn : (ER : Emb (UR nD τ) 𝕄).LandsIn (upEmb : UEmb _ 𝕄) := by unfold ER; infer_instance

abbrev 𝒱₀ : Variants := Variants.none

/-! ## Contents -/

variable (m : (ℓ : Loc nD τ sig) → Buf (Elt F) ℓ)

/-- The devices' operands at launch. -/
def X (c : Dev nD) : Half F := m ((c : Thread nD τ).loc main_arg0)

/-- The chunks, held at share `q` at contents `f` by device `c`, named from device `d`. -/
abbrev rPt (c d : Dev nD) (g : Fin 4) (k : Fin 8) (q : PosShare TreeShare) (f : Half F) : sProp 𝕄 :=
  (rC d g k).view.loc (c : Thread nD τ) ↦[(rC d g k).view.set]{q} f
abbrev xPt (c : Dev nD) (g : Fin 4) (k : Fin 8) (q : PosShare TreeShare) (f : Half F) : sProp 𝕄 :=
  (xC c g k).view.loc (c : Thread nD τ) ↦[(xC c g k).view.set]{q} f
abbrev mPt (c : Dev nD) (g : Fin 4) (k : Fin 8) (f : Full F) : sProp 𝕄 :=
  (mC c g k).view.loc (c : Thread nD τ) ↦[(mC c g k).view.set]{fullShare} f
abbrev tPt (c : Dev nD) (g : Fin 4) (k : Fin 8) (f : Full F) : sProp 𝕄 :=
  (tC c g k).view.loc (c : Thread nD τ) ↦[(tC c g k).view.set]{fullShare} f

/-! ## Legs and their cells -/

/-- The chunks a phase moves. -/
abbrev used (p : Fin 6) (k : Fin 8) : Prop :=
  (p = 0 ∨ (p = 1 ∧ k.val < 3)) ∨ (p = 2 ∨ p = 3 ∨ (p = 4 ∧ 3 ≤ k.val ∧ k.val < 6) ∨ (p = 5 ∧ 6 ≤ k.val))

abbrev Leg : Type := Fin 6 × Fin 8
def legs : Finset Leg := Finset.univ.filter fun l => used l.1 l.2

abbrev sndCell (c : Dev nD) (p : Fin 6) (k : Fin 8) : GSem nD τ sig := ((c : Thread nD τ), .dma (sndS p k))
abbrev rcvCell (c : Dev nD) (p : Fin 6) (k : Fin 8) : GSem nD τ sig := ((c : Thread nD τ), .dma (rcvS p k))

/-- The leg and the end (`true`: the landing's) a semaphore belongs to. -/
def legOf : SemLoc sig → Option (Bool × Leg)
  | .reg _ => none
  | .dma q =>
    if 52 ≤ q.val ∧ q.val < 100 then some (false, ⟨(q.val - 52) / 8 % 6, Nat.mod_lt _ (by decide)⟩, ⟨(q.val - 52) % 8, Nat.mod_lt _ (by decide)⟩)
    else if 100 ≤ q.val then some (true, ⟨(q.val - 100) / 8 % 6, Nat.mod_lt _ (by decide)⟩, ⟨(q.val - 100) % 8, Nat.mod_lt _ (by decide)⟩)
    else none

theorem legOf_snd : ∀ (p : Fin 6) (k : Fin 8), legOf (.dma (sndS p k)) = some (false, p, k) := by decide +kernel
theorem legOf_rcv : ∀ (p : Fin 6) (k : Fin 8), legOf (.dma (rcvS p k)) = some (true, p, k) := by decide +kernel
theorem legOf_in : ∀ s : Fin 2, legOf (.dma (inS s)) = none := by decide +kernel
theorem legOf_out : ∀ s : Fin 2, legOf (.dma (outS s)) = none := by decide +kernel
theorem legOf_loc : ∀ (p : Fin 6) (k : Fin 8), legOf (.dma (locS p k)) = none := by decide +kernel

/-- What a copy of one chunk credits. -/
abbrev N : ℕ := (rC 0 0 0).view.dmaCredit
theorem N_pos : 0 < N := View.dmaCredit_pos _ (by decide)

/-! ## The schedule -/

/-- What a landing hands the receiver: the chunk, holding what the receive buffer is to hold. -/
def rcvPay (c : Dev nD) (l : Leg) : sProp 𝕄 := rPt c c (rg l.1) l.2 fullShare (Rv (X m) c)
/-- What a read-out hands the sender back: the result's chunk, if that was the source. -/
def sndPay (c : Dev nD) (l : Leg) : sProp 𝕄 := if l.1.val < 2 then mPt c (sg l.1) l.2 (Ov (X m) c) else iprop(emp)

instance rcvPay_storable (c : Dev nD) (l : Leg) : BI.Storable (upEmb : UEmb _ 𝕄) (rcvPay m c l) := by
  unfold rcvPay; infer_instance
instance sndPay_storable (c : Dev nD) (l : Leg) : BI.Storable (upEmb : UEmb _ 𝕄) (sndPay m c l) := by
  unfold sndPay; split <;> infer_instance

/-- What the units at an end of a leg hand over. -/
def endPay (c : Dev nD) (e : Bool × Leg) : sProp 𝕄 := if e.1 then rcvPay m c e.2 else sndPay m c e.2
instance endPay_storable (c : Dev nD) (e : Bool × Leg) : BI.Storable (upEmb : UEmb _ 𝕄) (endPay m c e) := by
  unfold endPay; split <;> infer_instance

/-- One round of one duty at each end of each leg. -/
def sched : Rounds.Schedule (GSem nD τ sig) Unit 𝕄 where
  duties g r := if r = 0 then (match legOf g.2 with | some e => if used e.2.1 e.2.2 then {()} else ∅ | none => ∅) else ∅
  unitless _ := False
  amount _ _ _ := N
  payload g _ _ := match legOf g.2 with | some e => endPay m g.1.1 e | none => iprop(emp)
  amount_pos _ _ _ _ := N_pos

instance sched_storable (g : GSem nD τ sig) (r : ℕ) (d : Unit) : BI.Storable (upEmb : UEmb _ 𝕄) ((sched m).payload g r d) := by
  show BI.Storable upEmb (match legOf g.2 with | some e => endPay m g.1.1 e | none => iprop(emp))
  split <;> infer_instance

section Sched
variable (c : Dev nD) (p : Fin 6) (k : Fin 8)

theorem duties_snd (h : used p k) : (sched m).duties (sndCell c p k) 0 = {()} := by
  dsimp only [sched]; rw [if_pos rfl, legOf_snd]; exact if_pos h
theorem duties_rcv (h : used p k) : (sched m).duties (rcvCell c p k) 0 = {()} := by
  dsimp only [sched]; rw [if_pos rfl, legOf_rcv]; exact if_pos h
theorem duties_later (g : GSem nD τ sig) : ∀ r, 1 ≤ r → (sched m).duties g r = ∅ :=
  fun r hr => by dsimp only [sched]; exact if_neg fun h => by omega
theorem payload_snd (u : Unit) : (sched m).payload (sndCell c p k) 0 u = sndPay m c (p, k) := by
  dsimp only [sched]; rw [legOf_snd]; rfl
theorem payload_rcv (u : Unit) : (sched m).payload (rcvCell c p k) 0 u = rcvPay m c (p, k) := by
  dsimp only [sched]; rw [legOf_rcv]; rfl
theorem expect_snd (h : used p k) : (sched m).expect (sndCell c p k) 0 = N := by
  unfold Schedule.expect Schedule.amountOf; rw [duties_snd m c p k h, Finset.sum_singleton]; rfl
theorem expect_rcv (h : used p k) : (sched m).expect (rcvCell c p k) 0 = N := by
  unfold Schedule.expect Schedule.amountOf; rw [duties_rcv m c p k h, Finset.sum_singleton]; rfl
theorem rest_snd (h : used p k) : bigSep ((sched m).duties (sndCell c p k) 0 \ ∅) (fun u => (sched m).payload (sndCell c p k) 0 u) = sndPay m c (p, k) := by
  rw [Finset.sdiff_empty, duties_snd m c p k h, bigSep_singleton, payload_snd]
theorem rest_rcv (h : used p k) : bigSep ((sched m).duties (rcvCell c p k) 0 \ ∅) (fun u => (sched m).payload (rcvCell c p k) 0 u) = rcvPay m c (p, k) := by
  rw [Finset.sdiff_empty, duties_rcv m c p k h, bigSep_singleton, payload_rcv]

end Sched

/-! ## What a device owes, and the levels -/

/-- The place of a leg in the order a device sends them. -/
def ord (l : Leg) : ℕ :=
  match l.1 with
  | 0 => l.2.val
  | 1 => 8 + l.2.val
  | 2 => 11 + 2 * l.2.val
  | 3 => 12 + 2 * l.2.val
  | 4 => 24 + l.2.val
  | 5 => 24 + l.2.val

/-- The legs still to be sent once `t` have been. -/
def left (t : ℕ) : Finset Leg := legs.filter fun l => t ≤ ord l

/-- What device `c` owes then. -/
def Owe (c : Dev nD) (t : ℕ) : CellTallies nD τ sig Unit := ∑ l ∈ left t, tallyAt (rcvCell (nbr l.1 c) l.1 l.2) () N

theorem left_ord : ∀ (p : Fin 6) (k : Fin 8), used p k → left (ord (p, k)) = insert (p, k) (left (ord (p, k) + 1)) ∧ (p, k) ∉ left (ord (p, k) + 1) := by
  decide +kernel
theorem left_zero : left 0 = legs := by decide +kernel
theorem left_end : left 32 = ∅ := by decide +kernel

theorem Owe_send (c : Dev nD) (p : Fin 6) (k : Fin 8) (h : used p k) :
    Owe c (ord (p, k)) = Owe c (ord (p, k) + 1) + tallyAt (rcvCell (nbr p c) p k) () N := by
  unfold Owe
  rw [(left_ord p k h).1, Finset.sum_insert (left_ord p k h).2, add_comm]
theorem Owe_end (c : Dev nD) : Owe c 32 = 0 := by unfold Owe; rw [left_end, Finset.sum_empty]

/-- A landing's level grows with its phase. -/
def lvl (p : Fin 6) : ℕ := (![1, 1, 2, 2, 3, 3] : Fin 6 → ℕ) p

def L (g : GSem nD τ sig) : Finset Unit := if g.1.2 = .tc then {()} else ∅
/-- The landings' cells by phase; every other cell at 0. -/
def lv (g : GSem nD τ sig) (_ : Unit) : ℕ :=
  match legOf g.2 with
  | some (true, l) => lvl l.1
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (p : Fin 6) (k : Fin 8) (u : Unit) : lv (rcvCell c p k) u = lvl p := by
  show (match legOf (.dma (rcvS p k)) with | some (true, l) => lvl l.1 | _ => 0) = _
  rw [legOf_rcv]

theorem Owe_pos {c : Dev nD} {t : ℕ} {g : GSem nD τ sig} {u : Unit} (h : 0 < Owe c t g u) :
    ∃ l ∈ left t, g = rcvCell (nbr l.1 c) l.1 l.2 := by
  by_contra hn
  push Not at hn
  refine absurd h (Nat.not_lt.mpr (Nat.le_of_eq ?_))
  unfold Owe
  rw [Finset.sum_apply, Finsupp.finset_sum_apply]
  refine Finset.sum_eq_zero fun l hl => ?_
  rw [tallyAt_apply, if_neg fun h' => hn l hl h'.1]

/-- A device may wait on a cell of a level below those of the legs it has still to send. -/
theorem mayWait (c : Dev nD) (q : DmaSem sig) (t : ℕ) (h : ∀ l ∈ left t, lv ((c : Thread nD τ), .dma q) () < lvl l.1) :
    (levAts L lv : sProp 𝕄) ⊢ MayWait (c : Thread nD τ) (.dma q) () (Owe c t) :=
  MayOwe.of_cut (L := L) (lev := lv) (lv ((c : Thread nD τ), .dma q) ())
    (fun p hp => by rw [Finset.mem_singleton.mp hp, L_tc]; exact Finset.mem_singleton_self _)
    (fun g u hg => by obtain ⟨l, -, rfl⟩ := Owe_pos hg; exact Finset.mem_singleton_self _)
    (fun p hp => by rw [Finset.mem_singleton.mp hp])
    (fun g u hg => by obtain ⟨l, hl, rfl⟩ := Owe_pos hg; rw [lv_rcv]; exact h l hl)

theorem lvl_pos : ∀ p : Fin 6, 0 < lvl p := by decide
theorem left_11 : ∀ l ∈ left 11, 1 < lvl l.1 := by decide +kernel
theorem left_27 : ∀ l ∈ left 27, 2 < lvl l.1 := by decide +kernel
theorem left_mono {t t' : ℕ} (h : t ≤ t') : left t' ⊆ left t := fun l hl =>
  Finset.mem_filter.mpr ⟨(Finset.mem_filter.mp hl).1, h.trans (Finset.mem_filter.mp hl).2⟩

theorem mayWait_low (c : Dev nD) (q : DmaSem sig) (t : ℕ) (h : legOf (.dma q) = none) :
    (levAts L lv : sProp 𝕄) ⊢ MayWait (c : Thread nD τ) (.dma q) () (Owe c t) :=
  mayWait c q t fun l _ => by
    have : lv ((c : Thread nD τ), .dma q) () = 0 := by
      show (match legOf (.dma q) with | some (true, l) => lvl l.1 | _ => 0) = _
      rw [h]
    rw [this]; exact lvl_pos _
theorem mayWait_rcv (c : Dev nD) (p : Fin 6) (k : Fin 8) (t : ℕ) (h : (lvl p = 1 ∧ 11 ≤ t) ∨ (lvl p = 2 ∧ 27 ≤ t) ∨ 32 ≤ t) :
    (levAts L lv : sProp 𝕄) ⊢ MayWait (c : Thread nD τ) (.dma (rcvS p k)) () (Owe c t) :=
  mayWait c _ t fun l hl => by
    rw [show lv ((c : Thread nD τ), .dma (rcvS p k)) () = lvl p from lv_rcv c p k ()]
    rcases h with ⟨h, ht⟩ | ⟨h, ht⟩ | ht
    · rw [h]; exact left_11 l (left_mono ht hl)
    · rw [h]; exact left_27 l (left_mono ht hl)
    · exact absurd (left_mono ht hl) (by rw [left_end]; exact Finset.notMem_empty _)

/-! ## The records every device consults -/

variable (K : Dev nD × Bool × Leg → ℕ)

abbrev endCell (c : Dev nD) (e : Bool × Leg) : GSem nD τ sig := if e.1 then rcvCell c e.2.1 e.2.2 else sndCell c e.2.1 e.2.2

/-- The used ends of all devices. -/
def ends : Finset (Dev nD × Bool × Leg) := Finset.univ.filter fun x => used x.2.2.1 x.2.2.2

/-- Every used cell's invariant and that its round 0 is reached, and the levels. -/
def records : sProp 𝕄 :=
  iprop((bigSep ends fun x => iprop(cellInv ER (sched m) (K x) (endCell x.1 x.2) ∗ reached ER (endCell x.1 x.2) 0)) ∗ levAts L lv)

instance records_persistent : BI.Persistent (records m K) := by unfold records; infer_instance

theorem records_end (c : Dev nD) (e : Bool × Leg) (h : used e.2.1 e.2.2) :
    records m K ⊢ iprop(cellInv ER (sched m) (K (c, e)) (endCell c e) ∗ reached ER (endCell c e) 0) := by
  unfold records
  refine (sep_mono_left (bigSep_elim (i := (c, e)) (Finset.mem_filter.mpr ⟨Finset.mem_univ _, h⟩))).trans ?_
  iintro ⟨H, -⟩
  iexact H
theorem records_snd (c : Dev nD) (p : Fin 6) (k : Fin 8) (h : used p k) :
    records m K ⊢ iprop(cellInv ER (sched m) (K (c, false, p, k)) (sndCell c p k) ∗ reached ER (sndCell c p k) 0) :=
  records_end m K c (false, p, k) h
theorem records_rcv (c : Dev nD) (p : Fin 6) (k : Fin 8) (h : used p k) :
    records m K ⊢ iprop(cellInv ER (sched m) (K (c, true, p, k)) (rcvCell c p k) ∗ reached ER (rcvCell c p k) 0) :=
  records_end m K c (true, p, k) h
theorem records_lev : records m K ⊢ levAts L lv := by
  unfold records; iintro ⟨-, H⟩; iexact H

end Cert.Proof

end
-- ==== Proof.Ops.lean ====
/-
  One lemma per operation of the body, each in terms of chunks: what the operation takes, what the rest of the program
  is given. Local copies are the library's flights, whose delivery is stated at the contents the chunk is to hold;
  remote copies pay the legs' duties.
-/
module

public import proofs.«01_k».proof.Proof.Common

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ (UU nD τ) ℕ

variable (m : (ℓ : Loc nD τ sig) → Buf (Elt F) ℓ) (K : Dev nD × Bool × Leg → ℕ)

/-- What holds of a device at a program's end. -/
abbrev Post (F : FTy → Type) [FloatOps F] : Type := PUnit.{1} → sProp (MT nD τ sig Unit (Elt F) ℕ (UU nD τ) ℕ)

/-- The program `P` run on device `c`. -/
abbrev run (c : Dev nD) (P : Op F) (Q : Post F) : sProp 𝕄 :=
  wp frame (wpE (defs₀ (F := F)) 𝒱₀ (c : Thread nD τ) none) Set.univ P Q

/-! ## Contents of a chunk just written -/

/-- A chunk rewritten with what another view reads holds what agrees with it index by index. -/
theorem landed {sp sp' : Space} {s : Shape} {e : EltTy} (vs : View sig .tc sp s e) (vd : View sig .tc sp' s e) (c : Dev nD)
    (q : PosShare TreeShare) (w : s.Idx → Elt F e) (fd G : vd.ty.Contents (Elt F)) (h : vd.read (Elt F) G = w) :
    (vd.loc (c : Thread nD τ) ↦[vd.set]{q} (vd.write (Elt F) fd w Finset.univ) : sProp 𝕄) = (vd.loc (c : Thread nD τ) ↦[vd.set]{q} G) := by
  refine pointsTo_congr fun i hi => ?_
  obtain ⟨y, rfl⟩ := View.exists_emb_of_mem_set vd hi
  have h1 : vd.read (Elt F) (vd.write (Elt F) fd w Finset.univ) y = vd.read (Elt F) G y := by rw [View.read_write_univ, h]
  rw [View.read_apply, View.read_apply] at h1
  exact (cast_inj _).mp h1

/-! ## The staging slots -/

abbrev Slots (F : FTy → Type) [FloatOps F] : Type := S2x1024x1024.Idx → Elt F .bf16

abbrev viPt (c : Dev nD) (s : Fin 2) (f : Slots F) : sProp 𝕄 := (viC s).view.loc (c : Thread nD τ) ↦[(viC s).view.set]{fullShare} f
abbrev voPt (c : Dev nD) (s : Fin 2) (f : Slots F) : sProp 𝕄 := (voC s).view.loc (c : Thread nD τ) ↦[(voC s).view.set]{fullShare} f

/-- What the operand's chunk reads. -/
def xRead (c : Dev nD) (g : Fin 4) (r : Fin 8) : S1024x1024.Idx → Elt F .bf16 := (xC c g r).view.read (Elt F) (X m c)

/-- A read slot free; -/
def viFree (c : Dev nD) (s : Fin 2) : sProp 𝕄 := iprop((∃ f, viPt c s f) ∗ semVal ((c : Thread nD τ), .dma (inS s)) 0)
/-- holding a chunk of the operand; -/
def viLd (c : Dev nD) (g : Fin 4) (r : Fin 8) (s : Fin 2) : sProp 𝕄 :=
  iprop((∃ f, ⌜(viC s).view.read (Elt F) f = xRead m c g r⌝ ∗ viPt c s f) ∗ semVal ((c : Thread nD τ), .dma (inS s)) 0)
/-- being filled with it. -/
def inFl (c : Dev nD) (g : Fin 4) (r : Fin 8) (s : Fin 2) : sProp 𝕄 :=
  iprop(∃ f, Flight EC (c : Thread nD τ) (.dma (inS s)) () N
    iprop(viPt c s ((viC s).view.write (Elt F) f (xRead m c g r) Finset.univ) ∗ xPt c g r fullShare.right (X m c)))
/-- A write slot free; -/
def voFree (c : Dev nD) (s : Fin 2) : sProp 𝕄 := iprop((∃ f, voPt c s f) ∗ semVal ((c : Thread nD τ), .dma (outS s)) 0)
/-- holding a chunk; -/
def voLd (c : Dev nD) (g : Fin 4) (r : Fin 8) (s : Fin 2) : sProp 𝕄 :=
  iprop((∃ f, ⌜(voC s).view.read (Elt F) f = xRead m c g r⌝ ∗ voPt c s f) ∗ semVal ((c : Thread nD τ), .dma (outS s)) 0)
/-- being written out. -/
def outFl (c : Dev nD) (g : Fin 4) (r : Fin 8) (s : Fin 2) : sProp 𝕄 :=
  iprop(∃ f, Flight EC (c : Thread nD τ) (.dma (outS s)) () N iprop(mPt c g r (Ov (X m) c) ∗ voPt c s f))
/-- A chunk of the receive buffer being written out. -/
def landFl (c : Dev nD) (p : Fin 6) (g : Fin 4) (k : Fin 8) : sProp 𝕄 :=
  iprop(∃ q, Flight EC (c : Thread nD τ) (.dma (locS p k)) () N iprop(tPt c g k (Ov (X m) c) ∗ rPt c c g k q (Rv (X m) c)))

/-- What the device owes once `t` legs have been sent. -/
def owesE (c : Dev nD) (t : ℕ) : sProp 𝕄 := iprop(∃ W, owes (c : Thread nD τ) (Owe c t) W)

/-! ## The local copies -/

variable (c : Dev nD) (g : Fin 4) (r : Fin 8) (s : Fin 2) (t : ℕ) (k : PUnit → Op F) (Q : Post F)

theorem op_inStart :
    iprop(xPt c g r fullShare.right (X m c) ∗ viFree c s)
      ⊢ iprop((inFl m c g r s -∗ run c (k ⟨⟩) Q) -∗ run c (inStart c g r s >>= k) Q) := by
  simp only [inStart, Prog.lift, Prog.bind_op, Prog.bind_ret]
  unfold viFree
  iintro ⟨Hx, ⟨%f, Hv⟩, Hs⟩ Hk
  iapply (Transfers.wp_dmaLocal EC 𝒱₀ (c : Thread nD τ) none (src := xC c g r) (dst := viC s) (sm := .dma (inS s)) () N rfl N_pos
    (Finset.Subset.refl _)) $$ [Hx Hv Hs]
  · isplitl [Hx]; · iexact Hx
    isplitl [Hv]; · iexact Hv
    iexact Hs
  iintro Hf
  iapply Hk
  unfold inFl
  iexists f
  iexact Hf

theorem op_inWait :
    iprop(records m K ∗ inFl m c g r s ∗ owesE c t)
      ⊢ iprop(((viLd m c g r s ∗ owesE c t) -∗ run c (k ⟨⟩) Q) -∗ run c (inWait c g r s >>= k) Q) := by
  simp only [inWait, Prog.lift, Prog.bind_op, Prog.bind_ret]
  unfold inFl owesE
  iintro ⟨#HR, ⟨%f, Hf⟩, %W, HO⟩ Hk
  iapply (Transfers.wp_waitLocalO EC 𝒱₀ (c : Thread nD τ) none (dstw := viC s) () rfl) $$ [Hf HO]
  · isplitl [Hf]; · iexact Hf
    isplitl [HO]; · iexact HO
    iapply (mayWait_low c (inS s) t (legOf_in s)); iapply (records_lev m K); iexact HR
  iintro ⟨⟨Hv, -⟩, Hs, HO⟩
  iapply Hk
  isplitl [Hv Hs]
  · unfold viLd
    isplitl [Hv]
    · iexists ((viC s).view.write (Elt F) f (xRead m c g r) Finset.univ)
      isplitr; · ipureintro; exact View.read_write_univ _ _
      iexact Hv
    iexact Hs
  iexists _; iexact HO

/-! ### The cast -/

theorem vi_set : (viC s).view.set = (slotRect s).set :=
  ((viRef.access (slotRect s)).set_reshape _).trans (View.set_slice_whole cc0_scratch0 _)
theorem vo_set : (voC s).view.set = (slotRect s).set :=
  ((voRef.access (slotRect s)).set_reshape _).trans (View.set_slice_whole cc0_scratch1 _)
theorem viRef_sub : (viRef.view.setOn (slotRect s).toLoadRect.set) ⊆ (viC s).view.set := by
  rw [vi_set]; exact Finset.Subset.trans (Finset.subset_of_eq ((View.set_slice viRef.view (slotRect s)).symm.trans (View.set_slice_whole cc0_scratch0 _))) (Finset.Subset.refl _)
theorem voRef_sub : (voRef.view.setOn (slotRect s).toLoadRect.set) ⊆ (voC s).view.set := by
  rw [vo_set]; exact Finset.Subset.trans (Finset.subset_of_eq ((View.set_slice voRef.view (slotRect s)).symm.trans (View.set_slice_whole cc0_scratch1 _))) (Finset.Subset.refl _)
theorem voRef_sub' : ((voRef.access (slotRect s)).setOn Finset.univ) ⊆ (voC s).view.set := by
  rw [vo_set]; exact Finset.subset_of_eq (View.set_slice_whole cc0_scratch1 _)

/-- What the cast stores reads back as what it loaded. -/
theorem cast_read (f g : Slots F) :
    (voC s).view.read (Elt F) ((voRef.access (slotRect s)).write (Elt F) g (Gen.k0_pay1 (viRef.view.readAt (Elt F) (slotRect s).toLoadRect f)) Finset.univ)
      = (viC s).view.read (Elt F) f := by
  have hp : Gen.k0_pay1 (viRef.view.readAt (Elt F) (slotRect s).toLoadRect f) = viRef.view.readAt (Elt F) (slotRect s).toLoadRect f := by
    unfold Gen.k0_pay1; exact shapeCast_shapeCast _ _ _
  rw [hp]
  funext x
  exact congrFun (View.read_write_univ (v := voRef.access (slotRect s)) g _)
    (Shape.reshapeEquiv (squeezes_S1x1024x1024_S1024x1024).numel_eq x)

theorem op_cast :
    iprop(viLd m c g r s ∗ voFree c s)
      ⊢ iprop(((viFree c s ∗ voLd m c g r s) -∗ run c (k ⟨⟩) Q) -∗ run c (castOp s >>= k) Q) := by
  simp only [castOp, Prog.lift, Prog.bind_op, Prog.bind_ret]
  unfold viLd voFree
  iintro ⟨⟨⟨%f, %hf, Hv⟩, Hs⟩, ⟨%f', Hw⟩, Hs'⟩ Hk
  iapply (wp_load 𝒱₀ (c : Thread nD τ) none Set.univ (m := viRef) (viRef_sub s)) $$ Hv; iintro Hv
  iapply (wp_load 𝒱₀ (c : Thread nD τ) none Set.univ (m := voRef) (voRef_sub s)) $$ Hw; iintro Hw
  iapply (wp_store 𝒱₀ (c : Thread nD τ) none Set.univ (m := voRef) (r := slotRect s) (Mk := Finset.univ) (voRef_sub' s)) $$ Hw; iintro Hw
  iapply Hk
  isplitl [Hv Hs]
  · unfold viFree
    isplitl [Hv]; · iexists f; iexact Hv
    iexact Hs
  unfold voLd
  isplitl [Hw]
  · iexists _
    isplitr
    · ipureintro; exact (cast_read s f f').trans hf
    iexact Hw
  iexact Hs'

theorem op_outStart :
    iprop(voLd m c g r s ∗ ∃ f, mPt c g r f)
      ⊢ iprop((outFl m c g r s -∗ run c (k ⟨⟩) Q) -∗ run c (outStart c g r s >>= k) Q) := by
  simp only [outStart, Prog.lift, Prog.bind_op, Prog.bind_ret]
  unfold voLd
  iintro ⟨⟨⟨%f, %hf, Hv⟩, Hs⟩, %fd, Hm⟩ Hk
  iapply (Transfers.wp_dmaLocal EC 𝒱₀ (c : Thread nD τ) none (src := voC s) (dst := mC c g r) (sm := .dma (outS s)) () N rfl N_pos
    (Finset.Subset.refl _)) $$ [Hm Hv Hs]
  · isplitl [Hv]; · iexact Hv
    isplitl [Hm]; · iexact Hm
    iexact Hs
  iintro Hf
  iapply Hk
  unfold outFl
  iexists f
  have e : (mPt c g r (Ov (X m) c) : sProp 𝕄) = _ := (landed (voC s).view (mC c g r).view c fullShare ((voC s).view.read (Elt F) f) fd (Ov (X m) c)
    (by rw [hf]; funext j; exact Ov_m (X m) c g r j)).symm
  rw [e]
  iexact Hf

theorem op_outWait :
    iprop(records m K ∗ outFl m c g r s ∗ owesE c t)
      ⊢ iprop(((mPt c g r (Ov (X m) c) ∗ voFree c s ∗ owesE c t) -∗ run c (k ⟨⟩) Q) -∗ run c (outWait c g r s >>= k) Q) := by
  simp only [outWait, Prog.lift, Prog.bind_op, Prog.bind_ret]
  unfold outFl owesE
  iintro ⟨#HR, ⟨%f, Hf⟩, %W, HO⟩ Hk
  iapply (Transfers.wp_waitLocalO EC 𝒱₀ (c : Thread nD τ) none (dstw := mC c g r) () rfl) $$ [Hf HO]
  · isplitl [Hf]; · iexact Hf
    isplitl [HO]; · iexact HO
    iapply (mayWait_low c (outS s) t (legOf_out s)); iapply (records_lev m K); iexact HR
  iintro ⟨⟨Hm, Hv⟩, Hs, HO⟩
  iapply Hk
  isplitl [Hm]; · iexact Hm
  isplitl [Hv Hs]
  · unfold voFree
    isplitl [Hv]; · iexists f; iexact Hv
    iexact Hs
  iexists _; iexact HO

variable (p : Fin 6) (q : PosShare TreeShare)

theorem op_landStart :
    iprop(rPt c c g r q (Rv (X m) c) ∗ (∃ f, tPt c g r f) ∗ semVal ((c : Thread nD τ), .dma (locS p r)) 0)
      ⊢ iprop((landFl m c p g r -∗ run c (k ⟨⟩) Q) -∗ run c (landStart c p g r >>= k) Q) := by
  simp only [landStart, Prog.lift, Prog.bind_op, Prog.bind_ret]
  iintro ⟨Hr, ⟨%fd, Ht⟩, Hs⟩ Hk
  iapply (Transfers.wp_dmaLocal EC 𝒱₀ (c : Thread nD τ) none (src := rC c g r) (dst := tC c g r) (sm := .dma (locS p r)) () N rfl N_pos
    (Finset.Subset.refl _)) $$ [Hr Ht Hs]
  · isplitl [Hr]; · iexact Hr
    isplitl [Ht]; · iexact Ht
    iexact Hs
  iintro Hf
  iapply Hk
  unfold landFl
  iexists q
  have e : (tPt c g r (Ov (X m) c) : sProp 𝕄) = _ :=
    (landed (rC c g r).view (tC c g r).view c fullShare ((rC c g r).view.read (Elt F) (Rv (X m) c)) fd (Ov (X m) c)
      (by funext j; exact Ov_t (X m) c g r j)).symm
  rw [e]
  iexact Hf

theorem op_landWait :
    iprop(records m K ∗ landFl m c p g r ∗ owesE c t)
      ⊢ iprop(((tPt c g r (Ov (X m) c) ∗ semVal ((c : Thread nD τ), .dma (locS p r)) 0 ∗ owesE c t) -∗ run c (k ⟨⟩) Q)
          -∗ run c (landWait c p g r >>= k) Q) := by
  simp only [landWait, Prog.lift, Prog.bind_op, Prog.bind_ret]
  unfold landFl owesE
  iintro ⟨#HR, ⟨%f, Hf⟩, %W, HO⟩ Hk
  iapply (Transfers.wp_waitLocalO EC 𝒱₀ (c : Thread nD τ) none (dstw := tC c g r) () rfl) $$ [Hf HO]
  · isplitl [Hf]; · iexact Hf
    isplitl [HO]; · iexact HO
    iapply (mayWait_low c (locS p r) t (legOf_loc p r)); iapply (records_lev m K); iexact HR
  iintro ⟨⟨Ht, -⟩, Hs, HO⟩
  iapply Hk
  isplitl [Ht]; · iexact Ht
  isplitl [Hs]; · iexact Hs
  iexists _; iexact HO

/-! ## The legs -/

/-- What a device sends a leg with: the chunk it goes to, and the duties of its two ends. -/
def fare (c : Dev nD) (p : Fin 6) (r : Fin 8) : sProp 𝕄 :=
  iprop((∃ f, rPt (nbr p c) c (sg p) r fullShare f) ∗ dutyTok ER (sndCell c p r) 0 () ∗ dutyTok ER (rcvCell (nbr p c) p r) 0 ())

/-- The receive buffer's chunk on the far device, named from either end. -/
theorem rPt_nbr (f : Half F) : (rPt (nbr p c) c (sg p) r q f : sProp 𝕄) = rPt (nbr p c) (nbr p c) (rg p) r q f := by
  show ((nbr p c : Thread nD τ).loc main_v1_1 ↦[(rC c (sg p) r).view.set]{q} f : sProp 𝕄) = ((nbr p c : Thread nD τ).loc main_v1_1 ↦[(rC (nbr p c) (rg p) r).view.set]{q} f : sProp 𝕄)
  rw [r_set, r_set, blk_nbr]

/-- A leg sent, whichever the source: it pays the landing's duty with the chunk rewritten, the read-out's with the
    source's share. -/
theorem wp_leg (sm : Memref sig .tc .hbm S1024x1024 .bf16) (fs : Buf (Elt F) (sm.view.loc (c : Thread nD τ))) (fd : Half F) (W : Waits sig Unit)
    (hu : used p r) (h₁ : (sm.view.loc (c : Thread nD τ) ↦[sm.view.set]{q} fs) ⊢ sndPay m c (p, r))
    (h₂ : (rC c (sg p) r).view.read (Elt F) (Rv (X m) (nbr p c)) = sm.view.read (Elt F) fs)
    {hsrc : sm.view.WordExact} {hdst : (rC c (sg p) r).view.WordExact} {hsc : (rC c (sg p) r).view.ref.isScScratch = false}
    {hsem : DmaTarget.Typed .hbm (.dma (rcvS p r)) (.remote (Dev.tc (nbr p c) : Thread nD τ) (rC c (sg p) r) (.dma (sndS p r)) hsc)} :
    iprop(cellInv ER (sched m) (K (c, false, p, r)) (sndCell c p r) ∗ cellInv ER (sched m) (K (nbr p c, true, p, r)) (rcvCell (nbr p c) p r)
        ∗ (sm.view.loc (c : Thread nD τ) ↦[sm.view.set]{q} fs) ∗ rPt (nbr p c) c (sg p) r fullShare fd
        ∗ owes (c : Thread nD τ) (Owe c (ord (p, r))) W
        ∗ dutyTok ER (sndCell c p r) 0 () ∗ reached ER (sndCell c p r) 0
        ∗ dutyTok ER (rcvCell (nbr p c) p r) 0 () ∗ reached ER (rcvCell (nbr p c) p r) 0)
      ⊢ iprop(((cred (tallyAt (sndCell c p r) () N) ∗ owes (c : Thread nD τ) (Owe c (ord (p, r) + 1)) W) -∗ run c (k ⟨⟩) Q)
          -∗ run c (.op (.enqueueDma sm (.remote (Dev.tc (nbr p c) : Thread nD τ) (rC c (sg p) r) (.dma (sndS p r)) hsc) (.dma (rcvS p r)) hsrc hdst hsem) k) Q) := by
  have hN : (rC c (sg p) r).view.amount (.dma (rcvS p r)) = N := rfl
  have d1 : () ∈ (sched m).duties (sndCell c p r) 0 := by rw [duties_snd m c p r hu]; exact Finset.mem_singleton_self _
  have d2 : () ∈ (sched m).duties (rcvCell (nbr p c) p r) 0 := by rw [duties_rcv m (nbr p c) p r hu]; exact Finset.mem_singleton_self _
  have p1 : (sm.view.loc (c : Thread nD τ) ↦[sm.view.set]{q} fs) ⊢ (sched m).payload (sndCell c p r) 0 () := by rw [payload_snd]; exact h₁
  have p2 : ((rC c (sg p) r).view.loc (nbr p c : Thread nD τ) ↦[(rC c (sg p) r).view.set]{fullShare}
      ((rC c (sg p) r).view.write (Elt F) fd (sm.view.read (Elt F) fs) Finset.univ)) ⊢ (sched m).payload (rcvCell (nbr p c) p r) 0 () := by
    rw [payload_rcv]
    exact (Entails.of_eq (landed sm.view (rC c (sg p) r).view (nbr p c) fullShare _ fd (Rv (X m) (nbr p c)) h₂)).trans
          (Entails.of_eq (rPt_nbr c r p fullShare _))
  exact Rounds.wp_send_pointsTo 𝒱₀ ER (sched m) (c : Thread nD τ) none (κ₁ := K (c, false, p, r)) (κ₂ := K (nbr p c, true, p, r))
    (r₁ := 0) (r₂ := 0) (d₁ := ()) (d₂ := ()) (fd := fd) d1 d2
    () () N hN rfl rfl (Owe c (ord (p, r) + 1)) (Owe_send c p r hu) (W := W) p1 p2 (Topo.routes_tc _ _)

/-- A chunk of the device's own half sent to device `n`. -/
abbrev sendTo (d n : Dev nD) (p : Fin 6) (g : Fin 4) (k : Fin 8) : Op F :=
  Prog.lift (.enqueueDma (mC d g k) (.remote (Dev.tc n) (rC d g k) (.dma (sndS p k))) (.dma (rcvS p k))
    (wm d g k) (wr d g k) ⟨⟨rfl, Or.inl rfl⟩, trivial⟩)

theorem op_sendTo (n : Dev nD) (hn : n = nbr p c) (hu : p = 0 ∨ (p = 1 ∧ r.val < 3)) (ht : ord (p, r) = t) (hg : sg p = g) :
    iprop(records m K ∗ mPt c g r (Ov (X m) c) ∗ fare c p r ∗ owesE c t)
      ⊢ iprop(((cred (tallyAt (sndCell c p r) () N) ∗ owesE c (t + 1)) -∗ run c (k ⟨⟩) Q) -∗ run c (sendTo c n p g r >>= k) Q) := by
  subst hn ht hg
  have hp : p.val < 2 := by rcases hu with rfl | ⟨rfl, -⟩ <;> decide
  have hu' : used p r := Or.inl hu
  simp only [sendTo, Prog.lift, Prog.bind_op, Prog.bind_ret]
  unfold fare owesE
  iintro ⟨#HR, Hm, ⟨⟨%fd, Hd⟩, Ht1, Ht2⟩, %W, HO⟩ Hk
  ihave #H1 := (records_snd m K c p r hu') $$ HR
  ihave #H2 := (records_rcv m K (nbr p c) p r hu') $$ HR
  icases H1 with ⟨H1i, H1r⟩
  icases H2 with ⟨H2i, H2r⟩
  iapply (wp_leg m K c r k Q p fullShare (mC c (sg p) r) (Ov (X m) c) fd W hu'
    (by unfold sndPay; rw [if_pos hp])
    (by funext j; exact (Rv_of_M (X m) p c r hu j).symm)) $$ [Hm Hd HO Ht1 Ht2]
  · isplitr; · iexact H1i
    isplitr; · iexact H2i
    isplitl [Hm]; · iexact Hm
    isplitl [Hd]; · iexact Hd
    isplitl [HO]; · iexact HO
    isplitl [Ht1]; · iexact Ht1
    isplitr; · iexact H1r
    isplitl [Ht2]; · iexact Ht2
    iexact H2r
  iintro ⟨Hc, HO⟩
  iapply Hk
  isplitl [Hc]; · iexact Hc
  iexists W; iexact HO

theorem op_sendM (hu : p = 0 ∨ (p = 1 ∧ r.val < 3)) (ht : ord (p, r) = t) (hg : sg p = g) :
    iprop(records m K ∗ mPt c g r (Ov (X m) c) ∗ fare c p r ∗ owesE c t)
      ⊢ iprop(((cred (tallyAt (sndCell c p r) () N) ∗ owesE c (t + 1)) -∗ run c (k ⟨⟩) Q) -∗ run c (sendM c p g r >>= k) Q) :=
  op_sendTo m K c g r t k Q p (xDev c) ((xDev_eq c).trans (by rcases hu with rfl | ⟨rfl, -⟩ <;> rfl)) hu ht hg

theorem op_sendR (n : Dev nD) (hu : p = 2 ∨ p = 3 ∨ (p = 4 ∧ 3 ≤ r.val ∧ r.val < 6) ∨ (p = 5 ∧ 6 ≤ r.val)) (hn : n = nbr p c)
    (ht : ord (p, r) = t) (hg : sg p = g) :
    iprop(records m K ∗ rPt c c g r q (Rv (X m) c) ∗ fare c p r ∗ owesE c t)
      ⊢ iprop(((cred (tallyAt (sndCell c p r) () N) ∗ owesE c (t + 1)) -∗ run c (k ⟨⟩) Q) -∗ run c (sendR c n p g r >>= k) Q) := by
  subst hn ht hg
  have hp : ¬ p.val < 2 := by rcases hu with rfl | rfl | ⟨rfl, -⟩ | ⟨rfl, -⟩ <;> decide
  have hu' : used p r := Or.inr hu
  simp only [sendR, Prog.lift, Prog.bind_op, Prog.bind_ret]
  unfold fare owesE
  iintro ⟨#HR, Hr, ⟨⟨%fd, Hd⟩, Ht1, Ht2⟩, %W, HO⟩ Hk
  ihave #H1 := (records_snd m K c p r hu') $$ HR
  ihave #H2 := (records_rcv m K (nbr p c) p r hu') $$ HR
  icases H1 with ⟨H1i, H1r⟩
  icases H2 with ⟨H2i, H2r⟩
  iapply (wp_leg m K c r k Q p q (rC c (sg p) r) (Rv (X m) c) fd W hu'
    (by unfold sndPay; rw [if_neg hp]; iintro -; iempintro)
    (by funext j; exact (Rv_of_R (X m) p c r hu j).symm)) $$ [Hr Hd HO Ht1 Ht2]
  · isplitr; · iexact H1i
    isplitr; · iexact H2i
    isplitl [Hr]; · iexact Hr
    isplitl [Hd]; · iexact Hd
    isplitl [HO]; · iexact HO
    isplitl [Ht1]; · iexact Ht1
    isplitr; · iexact H1r
    isplitl [Ht2]; · iexact Ht2
    iexact H2r
  iintro ⟨Hc, HO⟩
  iapply Hk
  isplitl [Hc]; · iexact Hc
  iexists W; iexact HO

/-- What a device waits for a landing with: its credit and the cell's position. -/
def due (c : Dev nD) (p : Fin 6) (r : Fin 8) : sProp 𝕄 :=
  iprop(cred (tallyAt (rcvCell c p r) () N) ∗ atPos ER (rcvCell c p r) 0 ∅ 0)

/-- A landing waited for, whatever views the wait names: the chunk comes, and the cell closes. -/
theorem wp_due (ms md : Memref sig .tc .hbm S1024x1024 .bf16) (hN : md.view.dmaCredit = N) (hu : used p r)
    (hl : (lvl p = 1 ∧ 11 ≤ t) ∨ (lvl p = 2 ∧ 27 ≤ t) ∨ 32 ≤ t) {hsrc : ms.view.WordExact} {hdst : md.view.WordExact} :
    iprop(records m K ∗ due c p r ∗ owesE c t)
      ⊢ iprop(((rPt c c (rg p) r fullShare (Rv (X m) c) ∗ semVal (rcvCell c p r) 0 ∗ owesE c t) -∗ run c (k ⟨⟩) Q)
          -∗ run c (.op (.waitDma2 (rcvS p r) ms md hsrc hdst) k) Q) := by
  unfold due owesE
  iintro ⟨#HR, ⟨Hc, Hat⟩, %W, HO⟩ Hk
  ihave #H1 := (records_rcv m K c p r hu) $$ HR
  icases H1 with ⟨H1i, -⟩
  iapply (Rounds.wp_wait_rest_token 𝒱₀ ER (sched m) (c : Thread nD τ) none (κ := K (c, true, p, r))
      (wpE_waitDma2_eq 𝒱₀ (c : Thread nD τ) none Set.univ) (Set.mem_univ _) () (O := Owe c t) (W := W) (R := 0) (m := 0) (T := ∅)
      (by rw [Nat.zero_add, expect_rcv m c p r hu, hN])) $$ [Hc HO Hat]
  · isplitr; · iexact H1i
    isplitl [Hc]; · rw [hN]; iexact Hc
    isplitl [HO]; · iexact HO
    isplitr; · iapply (mayWait_rcv c p r t hl); iapply (records_lev m K); iexact HR
    iexact Hat
  iintro ⟨HO, Hat, -, Hpay⟩
  ihave Hp := (Entails.of_eq (rest_rcv m c p r hu)) $$ Hpay
  imod (Rounds.cell_close ER (sched m) (Set.mem_univ (K (c, true, p, r))) (fun h => h) (R := 0 + 1) (duties_later m (rcvCell c p r))) $$ [Hat] with Hz
  · isplitr; · iexact H1i
    iexact Hat
  iapply Hk
  isplitl [Hp]; · unfold rcvPay; iexact Hp
  isplitl [Hz]; · iexact Hz
  iexists _; iexact HO

theorem op_recvWaitM (hu : used p r) (hl : (lvl p = 1 ∧ 11 ≤ t) ∨ (lvl p = 2 ∧ 27 ≤ t) ∨ 32 ≤ t) :
    iprop(records m K ∗ due c p r ∗ owesE c t)
      ⊢ iprop(((rPt c c (rg p) r fullShare (Rv (X m) c) ∗ semVal (rcvCell c p r) 0 ∗ owesE c t) -∗ run c (k ⟨⟩) Q)
          -∗ run c (recvWaitM c p g r >>= k) Q) := by
  simp only [recvWaitM, Prog.lift, Prog.bind_op, Prog.bind_ret]
  exact wp_due m K c r t k Q p (mC c g r) (rC c g r) rfl hu hl
theorem op_recvWaitR (hu : used p r) (hl : (lvl p = 1 ∧ 11 ≤ t) ∨ (lvl p = 2 ∧ 27 ≤ t) ∨ 32 ≤ t) :
    iprop(records m K ∗ due c p r ∗ owesE c t)
      ⊢ iprop(((rPt c c (rg p) r fullShare (Rv (X m) c) ∗ semVal (rcvCell c p r) 0 ∗ owesE c t) -∗ run c (k ⟨⟩) Q)
          -∗ run c (recvWaitR c p g r >>= k) Q) := by
  simp only [recvWaitR, Prog.lift, Prog.bind_op, Prog.bind_ret]
  exact wp_due m K c r t k Q p (rC c g r) (rC c g r) rfl hu hl

/-- What a device waits for a read-out with. -/
def sent (c : Dev nD) (p : Fin 6) (r : Fin 8) : sProp 𝕄 :=
  iprop(cred (tallyAt (sndCell c p r) () N) ∗ atPos ER (sndCell c p r) 0 ∅ 0)

/-- A read-out waited for, nothing being owed. -/
theorem wp_sent (ms md : Memref sig .tc .hbm S1024x1024 .bf16) (hN : md.view.dmaCredit = N) (hu : used p r)
    {hsrc : ms.view.WordExact} {hdst : md.view.WordExact} :
    iprop(records m K ∗ sent c p r ∗ owesE c 32)
      ⊢ iprop(((sndPay m c (p, r) ∗ semVal (sndCell c p r) 0 ∗ owesE c 32) -∗ run c (k ⟨⟩) Q)
          -∗ run c (.op (.waitDma2 (sndS p r) ms md hsrc hdst) k) Q) := by
  unfold sent owesE
  rw [Owe_end]
  iintro ⟨#HR, ⟨Hc, Hat⟩, %W, HO⟩ Hk
  ihave #H1 := (records_snd m K c p r hu) $$ HR
  icases H1 with ⟨H1i, -⟩
  iapply (Rounds.wp_wait_rest_token 𝒱₀ ER (sched m) (c : Thread nD τ) none (κ := K (c, false, p, r))
      (wpE_waitDma2_eq 𝒱₀ (c : Thread nD τ) none Set.univ) (Set.mem_univ _) () (O := 0) (W := W) (R := 0) (m := 0) (T := ∅)
      (by rw [Nat.zero_add, expect_snd m c p r hu, hN])) $$ [Hc HO Hat]
  · isplitr; · iexact H1i
    isplitl [Hc]; · rw [hN]; iexact Hc
    isplitl [HO]; · iexact HO
    isplitr; · rw [MayWait_zero]; iempintro
    iexact Hat
  iintro ⟨HO, Hat, -, Hpay⟩
  ihave Hp := (Entails.of_eq (rest_snd m c p r hu)) $$ Hpay
  imod (Rounds.cell_close ER (sched m) (Set.mem_univ (K (c, false, p, r))) (fun h => h) (R := 0 + 1) (duties_later m (sndCell c p r))) $$ [Hat] with Hz
  · isplitr; · iexact H1i
    iexact Hat
  iapply Hk
  isplitl [Hp]; · iexact Hp
  isplitl [Hz]; · iexact Hz
  iexists _; iexact HO

theorem op_sendWaitM (hu : used p r) :
    iprop(records m K ∗ sent c p r ∗ owesE c 32)
      ⊢ iprop(((sndPay m c (p, r) ∗ semVal (sndCell c p r) 0 ∗ owesE c 32) -∗ run c (k ⟨⟩) Q) -∗ run c (sendWaitM c p g r >>= k) Q) := by
  simp only [sendWaitM, Prog.lift, Prog.bind_op, Prog.bind_ret]
  exact wp_sent m K c r k Q p (rC c g r) (mC c g r) rfl hu
theorem op_sendWaitR (hu : used p r) :
    iprop(records m K ∗ sent c p r ∗ owesE c 32)
      ⊢ iprop(((sndPay m c (p, r) ∗ semVal (sndCell c p r) 0 ∗ owesE c 32) -∗ run c (k ⟨⟩) Q) -∗ run c (sendWaitR c p g r >>= k) Q) := by
  simp only [sendWaitR, Prog.lift, Prog.bind_op, Prog.bind_ret]
  exact wp_sent m K c r k Q p (rC c g r) (rC c g r) rfl hu

end Cert.Proof

end
-- ==== Proof.Steps.lean ====
/-
  The body's loops. A loop's contract follows from its step's; a step takes one chunk's pieces from a separating
  conjunction over the loop's range, carries the loop's state, and leaves the chunk's pieces for later parts.
-/
module

public import proofs.«01_k».proof.Proof.Ops
public import Idealize.SL.BI.BigOpNat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions of the launch. -/
abbrev As (F : FTy → Type) [FloatOps F] : Type := sProp (MT nD τ sig Unit (Elt F) ℕ (UU nD τ) ℕ)

variable (m : (ℓ : Loc nD τ sig) → Buf (Elt F) ℓ) (K : Dev nD × Bool × Leg → ℕ)
variable (c : Dev nD) (Q : Post F)

/-! ## A loop from its step -/

/-- A loop whose step `j` takes `Pre j` to `Post j` and the state from `R j` to `R (j + 1)`. -/
theorem wp_loop (Pre Pst R : ℕ → As F) (f : ℕ → Op F → Op F) (n : ℕ) : ∀ i, (∀ j, i ≤ j → j < i + n → ∀ k,
    iprop(records m K ∗ Pre j ∗ R j) ⊢ iprop(((Pst j ∗ R (j + 1)) -∗ run c k Q) -∗ run c (f j k) Q)) → ∀ k,
    iprop(records m K ∗ bigSep (Finset.Ico i (i + n)) Pre ∗ R i)
      ⊢ iprop(((bigSep (Finset.Ico i (i + n)) Pst ∗ R (i + n)) -∗ run c k Q) -∗ run c (loop f n i k) Q) := by
  induction n with
  | zero =>
    intro i _ k
    iintro ⟨-, -, HR⟩ Hk
    iapply Hk
    isplitr
    · rw [Nat.add_zero, Finset.Ico_self, bigSep_empty]; iempintro
    iexact HR
  | succ n ih =>
    intro i step k
    have hb : ∀ Φ : ℕ → As F, bigSep (Finset.Ico i (i + (n + 1))) Φ = iprop(Φ i ∗ bigSep (Finset.Ico (i + 1) (i + 1 + n)) Φ) := fun Φ => by
      rw [show i + (n + 1) = i + 1 + n by omega]; exact bigSep_Ico_succ_bot (by omega) Φ
    rw [hb, hb]
    iintro ⟨#HP, ⟨Hi, Hpre⟩, HR⟩ Hk
    iapply (step i (le_refl _) (by omega) (loop f n (i + 1) k)) $$ [Hi HR]
    · isplitr; · iexact HP
      isplitl [Hi]; · iexact Hi
      iexact HR
    iintro ⟨Hp, HR⟩
    iapply (ih (i + 1) (fun j h₁ h₂ k => step j (by omega) (by omega) k) k) $$ [Hpre HR]
    · isplitr; · iexact HP
      isplitl [Hpre]; · iexact Hpre
      iexact HR
    iintro ⟨Hps, HR⟩
    iapply Hk
    isplitl [Hp Hps]
    · isplitl [Hp]; · iexact Hp
      iexact Hps
    rw [show i + (n + 1) = i + 1 + n by omega]; iexact HR

/-! ## The pieces of a chunk -/

/-- A chunk of the result at any contents, in the own half and in the other. -/
def mAny (c : Dev nD) (g : Fin 4) (r : Fin 8) : As F := iprop(∃ f, mPt c g r f)
def tAny (c : Dev nD) (g : Fin 4) (r : Fin 8) : As F := iprop(∃ f, tPt c g r f)
/-- What a leg is sent with, and what its read-out is waited for with beyond that. -/
def ticket (c : Dev nD) (p : Fin 6) (r : Fin 8) : As F := iprop(fare c p r ∗ atPos ER (sndCell c p r) 0 ∅ 0)
/-- What a landing is received and written out with. -/
def box (c : Dev nD) (p : Fin 6) (r : Fin 8) : As F :=
  iprop(due c p r ∗ tAny c (rg p) r ∗ semVal ((c : Thread nD τ), .dma (locS p r)) 0)
/-- A landing received, being written out. -/
def got (c : Dev nD) (p : Fin 6) (r : Fin 8) : As F := iprop(landFl m c p (rg p) r ∗ semVal (rcvCell c p r) 0)
/-- And written out. -/
def kept (c : Dev nD) (p : Fin 6) (r : Fin 8) : As F :=
  iprop(tPt c (rg p) r (Ov (X m) c) ∗ semVal ((c : Thread nD τ), .dma (locS p r)) 0 ∗ semVal (rcvCell c p r) 0)
/-- A leg's read-out waited for. -/
def back (c : Dev nD) (p : Fin 6) (r : Fin 8) : As F := iprop(sndPay m c (p, r) ∗ semVal (sndCell c p r) 0)

theorem sOf_two (j : ℕ) : sOf (j + 1 + 1) = sOf j := Fin.ext (Nat.add_mod_right j 2)
theorem rOf_lt {j : ℕ} (h : j < 8) : (rOf j).val = j := Nat.mod_eq_of_lt h

/-! ## The first part -/

/-- The pieces chunk `j` of the own half is staged with: the operand's next chunk, and the result's. -/
def stage (c : Dev nD) (j : ℕ) : As F :=
  iprop(xPt c (qOf (j + 1)) (rOf (j + 1)) fullShare.right (X m c) ∗ mAny c (qOf j) (rOf j))

/-- The state of the loops that send what they stage: chunk `j` on its way in, the write slots free. -/
def stA (c : Dev nD) (j : ℕ) : As F :=
  iprop(inFl m c (qOf j) (rOf j) (sOf j) ∗ viFree c (sOf (j + 1)) ∗ voFree c (sOf j) ∗ voFree c (sOf (j + 1)) ∗ owesE c j)
/-- The state of the last loop: two chunks on their way out as well. -/
def stD (c : Dev nD) (j : ℕ) : As F :=
  iprop(inFl m c (qOf j) (rOf j) (sOf j) ∗ viFree c (sOf (j + 1)) ∗ outFl m c (qOf (j - 2)) (rOf (j - 2)) (sOf (j - 2))
    ∗ outFl m c (qOf (j - 1)) (rOf (j - 1)) (sOf (j - 1)) ∗ owesE c 11)

/-- A chunk staged, written out and sent to the x neighbour. -/
theorem wp_stepSend (p : Fin 6) (g : Fin 4) (j : ℕ) (k : Op F) (hg : sg p = g) (hq : qOf j = g) (ho : ord (p, rOf j) = j)
    (hu : p = 0 ∨ (p = 1 ∧ (rOf j).val < 3)) :
    iprop(records m K ∗ (stage m c j ∗ ticket c p (rOf j)) ∗ stA m c j)
      ⊢ iprop(((sent c p (rOf j) ∗ stA m c (j + 1)) -∗ run c k Q) -∗ run c (do
          inStart c (qOf (j + 1)) (rOf (j + 1)) (sOf (j + 1))
          inWait c (qOf j) (rOf j) (sOf j)
          castOp (sOf j)
          outStart c (qOf j) (rOf j) (sOf j)
          outWait c (qOf j) (rOf j) (sOf j)
          sendM c p g (rOf j)
          k) Q) := by
  unfold stage ticket stA mAny
  rw [sOf_two]
  iintro ⟨#HR, ⟨⟨Hx, Hm⟩, Hf, Hat⟩, Hin, Hvi, Hvo, Hvo', HO⟩ Hk
  iapply (op_inStart m c (qOf (j + 1)) (rOf (j + 1)) (sOf (j + 1)) _ Q) $$ [Hx Hvi]
  · isplitl [Hx]; · iexact Hx
    iexact Hvi
  iintro Hin'
  iapply (op_inWait m K c (qOf j) (rOf j) (sOf j) j _ Q) $$ [Hin HO]
  · isplitr; · iexact HR
    isplitl [Hin]; · iexact Hin
    iexact HO
  iintro ⟨Hl, HO⟩
  iapply (op_cast m c (qOf j) (rOf j) (sOf j) _ Q) $$ [Hl Hvo]
  · isplitl [Hl]; · iexact Hl
    iexact Hvo
  iintro ⟨Hvi, Hvo⟩
  iapply (op_outStart m c (qOf j) (rOf j) (sOf j) _ Q) $$ [Hvo Hm]
  · isplitl [Hvo]; · iexact Hvo
    iexact Hm
  iintro Hout
  iapply (op_outWait m K c (qOf j) (rOf j) (sOf j) j _ Q) $$ [Hout HO]
  · isplitr; · iexact HR
    isplitl [Hout]; · iexact Hout
    iexact HO
  iintro ⟨Hm, Hvo, HO⟩
  iapply (op_sendM m K c g (rOf j) j (fun _ => k) Q p hu ho hg) $$ [Hm Hf HO]
  · isplitr; · iexact HR
    isplitl [Hm]; · rw [hq]; iexact Hm
    isplitl [Hf]; · iexact Hf
    iexact HO
  iintro ⟨Hc, HO⟩
  iapply Hk
  isplitl [Hc Hat]
  · unfold sent; isplitl [Hc]; · iexact Hc
    iexact Hat
  isplitl [Hin']; · iexact Hin'
  isplitl [Hvi]; · iexact Hvi
  isplitl [Hvo']; · iexact Hvo'
  isplitl [Hvo]; · iexact Hvo
  iexact HO

/-- A chunk staged into free slots, its write-out left on its way. -/
theorem wp_stepC (j : ℕ) (k : Op F) :
    iprop(records m K ∗ stage m c j ∗ inFl m c (qOf j) (rOf j) (sOf j) ∗ viFree c (sOf (j + 1)) ∗ voFree c (sOf j) ∗ owesE c 11)
      ⊢ iprop(((inFl m c (qOf (j + 1)) (rOf (j + 1)) (sOf (j + 1)) ∗ viFree c (sOf j) ∗ outFl m c (qOf j) (rOf j) (sOf j) ∗ owesE c 11)
          -∗ run c k Q) -∗ run c (stepC c j k) Q) := by
  unfold stage mAny stepC
  iintro ⟨#HR, ⟨Hx, Hm⟩, Hin, Hvi, Hvo, HO⟩ Hk
  iapply (op_inStart m c (qOf (j + 1)) (rOf (j + 1)) (sOf (j + 1)) _ Q) $$ [Hx Hvi]
  · isplitl [Hx]; · iexact Hx
    iexact Hvi
  iintro Hin'
  iapply (op_inWait m K c (qOf j) (rOf j) (sOf j) 11 _ Q) $$ [Hin HO]
  · isplitr; · iexact HR
    isplitl [Hin]; · iexact Hin
    iexact HO
  iintro ⟨Hl, HO⟩
  iapply (op_cast m c (qOf j) (rOf j) (sOf j) _ Q) $$ [Hl Hvo]
  · isplitl [Hl]; · iexact Hl
    iexact Hvo
  iintro ⟨Hvi, Hvo⟩
  iapply (op_outStart m c (qOf j) (rOf j) (sOf j) (fun _ => k) Q) $$ [Hvo Hm]
  · isplitl [Hvo]; · iexact Hvo
    iexact Hm
  iintro Hout
  iapply Hk
  isplitl [Hin']; · iexact Hin'
  isplitl [Hvi]; · iexact Hvi
  isplitl [Hout]; · iexact Hout
  iexact HO

/-- A chunk staged, the write-out two before it waited for. -/
theorem wp_stepD (j : ℕ) (hj : 2 ≤ j) (k : Op F) :
    iprop(records m K ∗ stage m c j ∗ stD m c j)
      ⊢ iprop(((mPt c (qOf (j - 2)) (rOf (j - 2)) (Ov (X m) c) ∗ stD m c (j + 1)) -∗ run c k Q) -∗ run c (stepD c j k) Q) := by
  obtain ⟨i, rfl⟩ : ∃ i, j = i + 1 + 1 := ⟨j - 2, by omega⟩
  unfold stage mAny stepD stD
  rw [show i + 1 + 1 + 1 - 2 = i + 1 by omega, show i + 1 + 1 + 1 - 1 = i + 1 + 1 by omega, show i + 1 + 1 - 2 = i by omega,
    show i + 1 + 1 - 1 = i + 1 by omega, sOf_two (i + 1 + 1), sOf_two (i + 1), sOf_two i]
  iintro ⟨#HR, ⟨Hx, Hm⟩, Hin, Hvi, Ho1, Ho2, HO⟩ Hk
  iapply (op_inStart m c (qOf (i + 1 + 1 + 1)) (rOf (i + 1 + 1 + 1)) (sOf (i + 1)) _ Q) $$ [Hx Hvi]
  · isplitl [Hx]; · iexact Hx
    iexact Hvi
  iintro Hin'
  iapply (op_inWait m K c (qOf (i + 1 + 1)) (rOf (i + 1 + 1)) (sOf i) 11 _ Q) $$ [Hin HO]
  · isplitr; · iexact HR
    isplitl [Hin]; · iexact Hin
    iexact HO
  iintro ⟨Hl, HO⟩
  iapply (op_outWait m K c (qOf i) (rOf i) (sOf i) 11 _ Q) $$ [Ho1 HO]
  · isplitr; · iexact HR
    isplitl [Ho1]; · iexact Ho1
    iexact HO
  iintro ⟨Hm', Hvo, HO⟩
  iapply (op_cast m c (qOf (i + 1 + 1)) (rOf (i + 1 + 1)) (sOf i) _ Q) $$ [Hl Hvo]
  · isplitl [Hl]; · iexact Hl
    iexact Hvo
  iintro ⟨Hvi, Hvo⟩
  iapply (op_outStart m c (qOf (i + 1 + 1)) (rOf (i + 1 + 1)) (sOf i) (fun _ => k) Q) $$ [Hvo Hm]
  · isplitl [Hvo]; · iexact Hvo
    iexact Hm
  iintro Hout
  iapply Hk
  isplitl [Hm']; · iexact Hm'
  isplitl [Hin']; · iexact Hin'
  isplitl [Hvi]; · iexact Hvi
  isplitl [Ho2]; · iexact Ho2
  isplitl [Hout]; · iexact Hout
  iexact HO

/-- The last chunk, and the write-outs drained. -/
theorem wp_stepE (k : Op F) :
    iprop(records m K ∗ mAny c 3 7 ∗ stD m c 31)
      ⊢ iprop(((mPt c 3 5 (Ov (X m) c) ∗ mPt c 3 6 (Ov (X m) c) ∗ mPt c 3 7 (Ov (X m) c)
          ∗ viFree c 0 ∗ viFree c 1 ∗ voFree c 0 ∗ voFree c 1 ∗ owesE c 11) -∗ run c k Q) -∗ run c (stepE c k) Q) := by
  unfold mAny stepE stD
  change iprop(records m K ∗ (∃ f, mPt c 3 7 f) ∗ inFl m c 3 7 1 ∗ viFree c 0 ∗ outFl m c 3 5 1 ∗ outFl m c 3 6 0 ∗ owesE c 11) ⊢ _
  iintro ⟨#HR, Hm, Hin, Hvi, Ho1, Ho2, HO⟩ Hk
  iapply (op_inWait m K c 3 7 1 11 _ Q) $$ [Hin HO]
  · isplitr; · iexact HR
    isplitl [Hin]; · iexact Hin
    iexact HO
  iintro ⟨Hl, HO⟩
  iapply (op_outWait m K c 3 5 1 11 _ Q) $$ [Ho1 HO]
  · isplitr; · iexact HR
    isplitl [Ho1]; · iexact Ho1
    iexact HO
  iintro ⟨Hm5, Hvo, HO⟩
  iapply (op_cast m c 3 7 1 _ Q) $$ [Hl Hvo]
  · isplitl [Hl]; · iexact Hl
    iexact Hvo
  iintro ⟨Hvi1, Hvo⟩
  iapply (op_outStart m c 3 7 1 _ Q) $$ [Hvo Hm]
  · isplitl [Hvo]; · iexact Hvo
    iexact Hm
  iintro Ho1
  iapply (op_outWait m K c 3 6 0 11 _ Q) $$ [Ho2 HO]
  · isplitr; · iexact HR
    isplitl [Ho2]; · iexact Ho2
    iexact HO
  iintro ⟨Hm6, Hvo0, HO⟩
  iapply (op_outWait m K c 3 7 1 11 (fun _ => k) Q) $$ [Ho1 HO]
  · isplitr; · iexact HR
    isplitl [Ho1]; · iexact Ho1
    iexact HO
  iintro ⟨Hm7, Hvo1, HO⟩
  iapply Hk
  isplitl [Hm5]; · iexact Hm5
  isplitl [Hm6]; · iexact Hm6
  isplitl [Hm7]; · iexact Hm7
  isplitl [Hvi]; · iexact Hvi
  isplitl [Hvi1]; · iexact Hvi1
  isplitl [Hvo0]; · iexact Hvo0
  isplitl [Hvo1]; · iexact Hvo1
  iexact HO

/-- What the first part runs from, -/
def pre1 (c : Dev nD) : As F :=
  iprop(xPt c 0 0 fullShare.right (X m c)
    ∗ (bigSep (Finset.Ico 0 8) fun j => iprop(stage m c j ∗ ticket c 0 (rOf j)))
    ∗ (bigSep (Finset.Ico 8 11) fun j => iprop(stage m c j ∗ ticket c 1 (rOf j)))
    ∗ stage m c 11 ∗ stage m c 12 ∗ bigSep (Finset.Ico 13 31) (stage m c) ∗ mAny c 3 7
    ∗ viFree c 0 ∗ viFree c 1 ∗ voFree c 0 ∗ voFree c 1 ∗ owesE c 0)
/-- and what it ends with. -/
def post1 (c : Dev nD) : As F :=
  iprop((bigSep (Finset.Ico 0 8) fun j => sent c 0 (rOf j)) ∗ (bigSep (Finset.Ico 8 11) fun j => sent c 1 (rOf j))
    ∗ (bigSep (Finset.Ico 13 31) fun j => mPt c (qOf (j - 2)) (rOf (j - 2)) (Ov (X m) c))
    ∗ mPt c 3 5 (Ov (X m) c) ∗ mPt c 3 6 (Ov (X m) c) ∗ mPt c 3 7 (Ov (X m) c)
    ∗ viFree c 0 ∗ viFree c 1 ∗ voFree c 0 ∗ voFree c 1 ∗ owesE c 11)

theorem ord0 {j : ℕ} (h : j < 8) : ord (0, rOf j) = j ∧ qOf j = 0 := by
  interval_cases j <;> exact ⟨rfl, rfl⟩
theorem ord1 {j : ℕ} (h : 8 ≤ j) (h' : j < 11) : ord (1, rOf j) = j ∧ qOf j = 1 ∧ (rOf j).val < 3 := by
  interval_cases j <;> exact ⟨rfl, rfl, by decide⟩

theorem wp_part1 (k : Op F) :
    iprop(records m K ∗ pre1 m c) ⊢ iprop((post1 m c -∗ run c k Q) -∗ run c (part1 c k) Q) := by
  unfold pre1 post1 part1
  iintro ⟨#HR, Hx, HA, HB, H11, H12, HD, Hm, Hvi0, Hvi1, Hvo0, Hvo1, HO⟩ Hk
  iapply (op_inStart m c 0 0 0 _ Q) $$ [Hx Hvi0]
  · isplitl [Hx]; · iexact Hx
    iexact Hvi0
  iintro Hin
  iapply (wp_loop m K c Q (fun j => iprop(stage m c j ∗ ticket c 0 (rOf j))) (fun j => sent c 0 (rOf j)) (stA m c) (stepA c) 8 0
    (fun j _ h k => wp_stepSend m K c Q 0 0 j k rfl (ord0 h).2 (ord0 h).1 (Or.inl rfl)) _) $$ [HA Hin Hvi1 Hvo0 Hvo1 HO]
  · isplitr; · iexact HR
    isplitl [HA]; · iexact HA
    unfold stA
    isplitl [Hin]; · iexact Hin
    isplitl [Hvi1]; · iexact Hvi1
    isplitl [Hvo0]; · iexact Hvo0
    isplitl [Hvo1]; · iexact Hvo1
    iexact HO
  iintro ⟨HA, Hst⟩
  iapply (wp_loop m K c Q (fun j => iprop(stage m c j ∗ ticket c 1 (rOf j))) (fun j => sent c 1 (rOf j)) (stA m c) (stepB c) 3 8
    (fun j h h' k => wp_stepSend m K c Q 1 1 j k rfl (ord1 h h').2.1 (ord1 h h').1 (Or.inr ⟨rfl, (ord1 h h').2.2⟩)) _) $$ [HB Hst]
  · isplitr; · iexact HR
    isplitl [HB]; · iexact HB
    iexact Hst
  iintro ⟨HB, Hst⟩
  ihave Hst := (show stA m c 11 ⊢ iprop(inFl m c (qOf 11) (rOf 11) (sOf 11) ∗ viFree c (sOf (11 + 1)) ∗ voFree c (sOf 11) ∗ voFree c (sOf (11 + 1)) ∗ owesE c 11)
    from Entails.refl _) $$ Hst
  icases Hst with ⟨Hin, Hvi, Hvo, Hvo', HO⟩
  iapply (wp_stepC m K c Q 11 (stepC c 12 (loop (stepD c) 18 13 <| stepE c k))) $$ [H11 Hin Hvi Hvo HO]
  · isplitr; · iexact HR
    isplitl [H11]; · iexact H11
    isplitl [Hin]; · iexact Hin
    isplitl [Hvi]; · iexact Hvi
    isplitl [Hvo]; · iexact Hvo
    iexact HO
  iintro ⟨Hin, Hvi, Ho1, HO⟩
  iapply (wp_stepC m K c Q 12 (loop (stepD c) 18 13 <| stepE c k)) $$ [H12 Hin Hvi Hvo' HO]
  · isplitr; · iexact HR
    isplitl [H12]; · iexact H12
    isplitl [Hin]; · iexact Hin
    isplitl [Hvi]; · iexact Hvi
    isplitl [Hvo']; · iexact Hvo'
    iexact HO
  iintro ⟨Hin, Hvi, Ho2, HO⟩
  iapply (wp_loop m K c Q (stage m c) (fun j => mPt c (qOf (j - 2)) (rOf (j - 2)) (Ov (X m) c)) (stD m c) (stepD c) 18 13
    (fun j h _ k => wp_stepD m K c Q j (by omega) k) _) $$ [HD Hin Hvi Ho1 Ho2 HO]
  · isplitr; · iexact HR
    isplitl [HD]; · iexact HD
    unfold stD
    isplitl [Hin]; · iexact Hin
    isplitl [Hvi]; · iexact Hvi
    isplitl [Ho1]; · iexact Ho1
    isplitl [Ho2]; · iexact Ho2
    iexact HO
  iintro ⟨HD, Hst⟩
  iapply (wp_stepE m K c Q k) $$ [Hm Hst]
  · isplitr; · iexact HR
    isplitl [Hm]; · iexact Hm
    iexact Hst
  iintro H
  iapply Hk
  isplitl [HA]; · iexact HA
  isplitl [HB]; · iexact HB
  isplitl [HD]; · iexact HD
  iexact H

end Cert.Proof

end
-- ==== Proof.Parts.lean ====
/-
  The second and third parts of the body, and the whole of it: what arrives is written out and sent on; every copy is
  waited for; the device ends with the whole result and every semaphore back at zero.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × Bool × Leg → ℕ)
variable (c : Dev nD) (Q : Post F)

/-! ## The second part -/

/-- A chunk of the receive buffer in two shares. -/
theorem rPt_halves (g : Fin 4) (r : Fin 8) (q : PosShare TreeShare) (f : Half F) :
    (rPt c c g r q f : As F) ⊢ iprop(rPt c c g r q.left f ∗ rPt c c g r q.right f) :=
  (pointsTo_share (PosShare.mem_left_op_right q)).1

theorem ord2 {j : ℕ} (h : j < 8) : ord (2, rOf j) = 11 + 2 * j ∧ ord (3, rOf j) = 11 + 2 * j + 1 := by
  interval_cases j <;> exact ⟨rfl, rfl⟩

/-- A chunk of the own quarter comes in, goes to the result, and on to the z and y neighbours. -/
theorem wp_step2 (j : ℕ) (hj : j < 8) (k : Op F) :
    iprop(records m K ∗ (box c 0 (rOf j) ∗ ticket c 2 (rOf j) ∗ ticket c 3 (rOf j)) ∗ owesE c (11 + 2 * j))
      ⊢ iprop((((got m c 0 (rOf j) ∗ sent c 2 (rOf j) ∗ sent c 3 (rOf j)) ∗ owesE c (11 + 2 * (j + 1))) -∗ run c k Q) -∗ run c (step2 c j k) Q) := by
  unfold box ticket tAny step2
  iintro ⟨#HR, ⟨⟨Hd, Ht, Hl⟩, ⟨Hf2, Ha2⟩, Hf3, Ha3⟩, HO⟩ Hk
  iapply (op_recvWaitM m K c 0 (rOf j) (11 + 2 * j) _ Q 0 (Or.inl (Or.inl rfl)) (Or.inl ⟨rfl, by omega⟩)) $$ [Hd HO]
  · isplitr; · iexact HR
    isplitl [Hd]; · iexact Hd
    iexact HO
  iintro ⟨Hr, Hz, HO⟩
  ihave Hr := (show (rPt c c (rg 0) (rOf j) fullShare (Rv (X m) c) : As F) ⊢ iprop(rPt c c 0 (rOf j) fullShare.left (Rv (X m) c) ∗ rPt c c 0 (rOf j) fullShare.right (Rv (X m) c))
    from rPt_halves c 0 (rOf j) fullShare (Rv (X m) c)) $$ Hr
  icases Hr with ⟨Hr1, Hr⟩
  ihave Hr := (rPt_halves c 0 (rOf j) fullShare.right (Rv (X m) c)) $$ Hr
  icases Hr with ⟨Hr2, Hr3⟩
  iapply (op_landStart m c 0 (rOf j) _ Q 0 fullShare.left) $$ [Hr1 Ht Hl]
  · isplitl [Hr1]; · iexact Hr1
    isplitl [Ht]; · iexact Ht
    iexact Hl
  iintro HL
  iapply (op_sendR m K c 0 (rOf j) (11 + 2 * j) _ Q 2 fullShare.right.left (zDev c) (Or.inl rfl) (zDev_eq c) (ord2 hj).1 rfl) $$ [Hr2 Hf2 HO]
  · isplitr; · iexact HR
    isplitl [Hr2]; · iexact Hr2
    isplitl [Hf2]; · iexact Hf2
    iexact HO
  iintro ⟨Hs2, HO⟩
  iapply (op_sendR m K c 0 (rOf j) (11 + 2 * j + 1) (fun _ => k) Q 3 fullShare.right.right (yDev c) (Or.inr (Or.inl rfl)) (yDev_eq c) (ord2 hj).2 rfl) $$ [Hr3 Hf3 HO]
  · isplitr; · iexact HR
    isplitl [Hr3]; · iexact Hr3
    isplitl [Hf3]; · iexact Hf3
    iexact HO
  iintro ⟨Hs3, HO⟩
  iapply Hk
  unfold got sent
  isplitr [HO]
  · isplitl [HL Hz]
    · isplitl [HL]; · iexact HL
      iexact Hz
    isplitl [Hs2 Ha2]
    · isplitl [Hs2]; · iexact Hs2
      iexact Ha2
    isplitl [Hs3]; · iexact Hs3
    iexact Ha3
  iexact HO

/-- A chunk comes in and goes to the result. -/
theorem wp_stepL (p : Fin 6) (g g' : Fin 4) (t j : ℕ) (hg : rg p = g) (hu : used p (rOf j))
    (hl : (lvl p = 1 ∧ 11 ≤ t) ∨ (lvl p = 2 ∧ 27 ≤ t) ∨ 32 ≤ t) (k : Op F) :
    iprop(records m K ∗ box c p (rOf j) ∗ owesE c t)
      ⊢ iprop(((got m c p (rOf j) ∗ owesE c t) -∗ run c k Q) -∗ run c (do recvWaitR c p g' (rOf j); landStart c p g (rOf j); k) Q) := by
  subst hg
  unfold box tAny
  iintro ⟨#HR, ⟨Hd, Ht, Hl⟩, HO⟩ Hk
  iapply (op_recvWaitR m K c g' (rOf j) t _ Q p hu hl) $$ [Hd HO]
  · isplitr; · iexact HR
    isplitl [Hd]; · iexact Hd
    iexact HO
  iintro ⟨Hr, Hz, HO⟩
  iapply (op_landStart m c (rg p) (rOf j) (fun _ => k) Q p fullShare) $$ [Hr Ht Hl]
  · isplitl [Hr]; · iexact Hr
    isplitl [Ht]; · iexact Ht
    iexact Hl
  iintro HL
  iapply Hk
  unfold got
  isplitr [HO]
  · isplitl [HL]; · iexact HL
    iexact Hz
  iexact HO

/-- The same of a chunk of the diagonal quarter, from the x neighbour. -/
theorem wp_step5x (t j : ℕ) (hj : (rOf j).val < 3) (ht : 11 ≤ t) (k : Op F) :
    iprop(records m K ∗ box c 1 (rOf j) ∗ owesE c t)
      ⊢ iprop(((got m c 1 (rOf j) ∗ owesE c t) -∗ run c k Q) -∗ run c (step5x c j k) Q) := by
  unfold box tAny step5x
  iintro ⟨#HR, ⟨Hd, Ht, Hl⟩, HO⟩ Hk
  iapply (op_recvWaitM m K c 1 (rOf j) t _ Q 1 (Or.inl (Or.inr ⟨rfl, hj⟩)) (Or.inl ⟨rfl, ht⟩)) $$ [Hd HO]
  · isplitr; · iexact HR
    isplitl [Hd]; · iexact Hd
    iexact HO
  iintro ⟨Hr, Hz, HO⟩
  iapply (op_landStart m c 1 (rOf j) (fun _ => k) Q 1 fullShare) $$ [Hr Ht Hl]
  · isplitl [Hr]; · iexact Hr
    isplitl [Ht]; · iexact Ht
    iexact Hl
  iintro HL
  iapply Hk
  unfold got
  isplitr [HO]
  · isplitl [HL]; · iexact HL
    iexact Hz
  iexact HO

/-- A chunk comes in, goes to the result and on to device `n`. -/
theorem wp_stepF (n : Dev nD) (p p' : Fin 6) (g : Fin 4) (j : ℕ) (hg : rg p = g) (hg' : sg p' = g) (hn : n = nbr p' c) (hu : used p (rOf j))
    (hu' : p' = 2 ∨ p' = 3 ∨ (p' = 4 ∧ 3 ≤ (rOf j).val ∧ (rOf j).val < 6) ∨ (p' = 5 ∧ 6 ≤ (rOf j).val))
    (ho : ord (p', rOf j) = 24 + j) (hl : lvl p = 2) (hj : 3 ≤ j) (k : Op F) :
    iprop(records m K ∗ (box c p (rOf j) ∗ ticket c p' (rOf j)) ∗ owesE c (24 + j))
      ⊢ iprop((((got m c p (rOf j) ∗ sent c p' (rOf j)) ∗ owesE c (24 + (j + 1))) -∗ run c k Q) -∗ run c (stepF c n p p' g j k) Q) := by
  subst hg
  unfold box ticket tAny stepF
  iintro ⟨#HR, ⟨⟨Hd, Ht, Hl⟩, Hf, Ha⟩, HO⟩ Hk
  iapply (op_recvWaitR m K c 0 (rOf j) (24 + j) _ Q p hu (Or.inr (Or.inl ⟨hl, by omega⟩))) $$ [Hd HO]
  · isplitr; · iexact HR
    isplitl [Hd]; · iexact Hd
    iexact HO
  iintro ⟨Hr, Hz, HO⟩
  ihave Hr := (rPt_halves c (rg p) (rOf j) fullShare (Rv (X m) c)) $$ Hr
  icases Hr with ⟨Hr1, Hr2⟩
  iapply (op_landStart m c (rg p) (rOf j) _ Q p fullShare.left) $$ [Hr1 Ht Hl]
  · isplitl [Hr1]; · iexact Hr1
    isplitl [Ht]; · iexact Ht
    iexact Hl
  iintro HL
  iapply (op_sendR m K c (rg p) (rOf j) (24 + j) (fun _ => k) Q p' fullShare.right n hu' hn ho hg') $$ [Hr2 Hf HO]
  · isplitr; · iexact HR
    isplitl [Hr2]; · iexact Hr2
    isplitl [Hf]; · iexact Hf
    iexact HO
  iintro ⟨Hs, HO⟩
  iapply Hk
  unfold got sent
  isplitr [HO]
  · isplitl [HL Hz]
    · isplitl [HL]; · iexact HL
      iexact Hz
    isplitl [Hs]; · iexact Hs
    iexact Ha
  iexact HO

/-- What the second part runs from, beside what is owed, -/
def pre2 (c : Dev nD) : As F :=
  iprop((bigSep (Finset.Ico 0 8) fun j => iprop(box c 0 (rOf j) ∗ ticket c 2 (rOf j) ∗ ticket c 3 (rOf j)))
    ∗ (bigSep (Finset.Ico 0 3) fun j => box c 2 (rOf j))
    ∗ (bigSep (Finset.Ico 3 6) fun j => iprop(box c 2 (rOf j) ∗ ticket c 4 (rOf j)))
    ∗ (bigSep (Finset.Ico 6 8) fun j => box c 2 (rOf j))
    ∗ (bigSep (Finset.Ico 0 6) fun j => box c 3 (rOf j))
    ∗ (bigSep (Finset.Ico 6 8) fun j => iprop(box c 3 (rOf j) ∗ ticket c 5 (rOf j)))
    ∗ (bigSep (Finset.Ico 0 3) fun j => box c 1 (rOf j))
    ∗ (bigSep (Finset.Ico 3 6) fun j => box c 4 (rOf j))
    ∗ (bigSep (Finset.Ico 6 8) fun j => box c 5 (rOf j)))
/-- and what it ends with. -/
def post2 (c : Dev nD) : As F :=
  iprop((bigSep (Finset.Ico 0 8) fun j => iprop(got m c 0 (rOf j) ∗ sent c 2 (rOf j) ∗ sent c 3 (rOf j)))
    ∗ (bigSep (Finset.Ico 0 3) fun j => got m c 2 (rOf j))
    ∗ (bigSep (Finset.Ico 3 6) fun j => iprop(got m c 2 (rOf j) ∗ sent c 4 (rOf j)))
    ∗ (bigSep (Finset.Ico 6 8) fun j => got m c 2 (rOf j))
    ∗ (bigSep (Finset.Ico 0 6) fun j => got m c 3 (rOf j))
    ∗ (bigSep (Finset.Ico 6 8) fun j => iprop(got m c 3 (rOf j) ∗ sent c 5 (rOf j)))
    ∗ (bigSep (Finset.Ico 0 3) fun j => got m c 1 (rOf j))
    ∗ (bigSep (Finset.Ico 3 6) fun j => got m c 4 (rOf j))
    ∗ (bigSep (Finset.Ico 6 8) fun j => got m c 5 (rOf j)))

theorem at036 {j : ℕ} (h : 3 ≤ j) (h' : j < 6) : (3 ≤ (rOf j).val ∧ (rOf j).val < 6) ∧ ord (4, rOf j) = 24 + j := by
  interval_cases j <;> exact ⟨by decide, rfl⟩
theorem at068 {j : ℕ} (h : 6 ≤ j) (h' : j < 8) : 6 ≤ (rOf j).val ∧ ord (5, rOf j) = 24 + j := by
  interval_cases j <;> exact ⟨by decide, rfl⟩
theorem at003 {j : ℕ} (h : j < 3) : (rOf j).val < 3 := by interval_cases j <;> decide

theorem wp_part2 (k : Op F) :
    iprop(records m K ∗ pre2 c ∗ owesE c 11) ⊢ iprop(((post2 m c ∗ owesE c 32) -∗ run c k Q) -∗ run c (part2 c k) Q) := by
  unfold pre2 post2 part2
  iintro ⟨#HR, ⟨H0, H2a, H2b, H2c, H3a, H3b, H1, H4, H5⟩, HO⟩ Hk
  iapply (wp_loop m K c Q (fun j => iprop(box c 0 (rOf j) ∗ ticket c 2 (rOf j) ∗ ticket c 3 (rOf j)))
    (fun j => iprop(got m c 0 (rOf j) ∗ sent c 2 (rOf j) ∗ sent c 3 (rOf j))) (fun j => owesE c (11 + 2 * j)) (step2 c) 8 0
    (fun j _ h k => wp_step2 m K c Q j h k) _) $$ [H0 HO]
  · isplitr; · iexact HR
    isplitl [H0]; · iexact H0
    iexact HO
  iintro ⟨H0, HO⟩
  iapply (wp_loop m K c Q (fun j => box c 2 (rOf j)) (fun j => got m c 2 (rOf j)) (fun _ => owesE c 27) (stepL c 2 2) 3 0
    (fun j _ _ k => wp_stepL m K c Q 2 2 0 27 j rfl (Or.inr (Or.inl rfl)) (Or.inr (Or.inl ⟨rfl, le_refl _⟩)) k) _) $$ [H2a HO]
  · isplitr; · iexact HR
    isplitl [H2a]; · iexact H2a
    iexact HO
  iintro ⟨H2a, HO⟩
  iapply (wp_loop m K c Q (fun j => iprop(box c 2 (rOf j) ∗ ticket c 4 (rOf j))) (fun j => iprop(got m c 2 (rOf j) ∗ sent c 4 (rOf j)))
    (fun j => owesE c (24 + j)) (stepF c (yDev c) 2 4 2) 3 3
    (fun j h h' k => wp_stepF m K c Q (yDev c) 2 4 2 j rfl rfl (yDev_eq c) (Or.inr (Or.inl rfl))
      (Or.inr (Or.inr (Or.inl ⟨rfl, (at036 h h').1⟩))) (at036 h h').2 rfl h k) _) $$ [H2b HO]
  · isplitr; · iexact HR
    isplitl [H2b]; · iexact H2b
    iexact HO
  iintro ⟨H2b, HO⟩
  iapply (wp_loop m K c Q (fun j => box c 2 (rOf j)) (fun j => got m c 2 (rOf j)) (fun _ => owesE c 30) (stepL c 2 2) 2 6
    (fun j _ _ k => wp_stepL m K c Q 2 2 0 30 j rfl (Or.inr (Or.inl rfl)) (Or.inr (Or.inl ⟨rfl, by decide⟩)) k) _) $$ [H2c HO]
  · isplitr; · iexact HR
    isplitl [H2c]; · iexact H2c
    iexact HO
  iintro ⟨H2c, HO⟩
  iapply (wp_loop m K c Q (fun j => box c 3 (rOf j)) (fun j => got m c 3 (rOf j)) (fun _ => owesE c 30) (stepL c 3 3) 6 0
    (fun j _ _ k => wp_stepL m K c Q 3 3 0 30 j rfl (Or.inr (Or.inr (Or.inl rfl))) (Or.inr (Or.inl ⟨rfl, by decide⟩)) k) _) $$ [H3a HO]
  · isplitr; · iexact HR
    isplitl [H3a]; · iexact H3a
    iexact HO
  iintro ⟨H3a, HO⟩
  iapply (wp_loop m K c Q (fun j => iprop(box c 3 (rOf j) ∗ ticket c 5 (rOf j))) (fun j => iprop(got m c 3 (rOf j) ∗ sent c 5 (rOf j)))
    (fun j => owesE c (24 + j)) (stepF c (zDev c) 3 5 3) 2 6
    (fun j h h' k => wp_stepF m K c Q (zDev c) 3 5 3 j rfl rfl (zDev_eq c) (Or.inr (Or.inr (Or.inl rfl)))
      (Or.inr (Or.inr (Or.inr ⟨rfl, (at068 h h').1⟩))) (at068 h h').2 rfl (by omega) k) _) $$ [H3b HO]
  · isplitr; · iexact HR
    isplitl [H3b]; · iexact H3b
    iexact HO
  iintro ⟨H3b, HO⟩
  iapply (wp_loop m K c Q (fun j => box c 1 (rOf j)) (fun j => got m c 1 (rOf j)) (fun _ => owesE c 32) (step5x c) 3 0
    (fun j _ h k => wp_step5x m K c Q 32 j (at003 h) (by decide) k) _) $$ [H1 HO]
  · isplitr; · iexact HR
    isplitl [H1]; · iexact H1
    iexact HO
  iintro ⟨H1, HO⟩
  iapply (wp_loop m K c Q (fun j => box c 4 (rOf j)) (fun j => got m c 4 (rOf j)) (fun _ => owesE c 32) (step5 c 4 2) 3 3
    (fun j h h' k => wp_stepL m K c Q 4 1 2 32 j rfl (Or.inr (Or.inr (Or.inr (Or.inl ⟨rfl, (at036 h h').1⟩)))) (Or.inr (Or.inr (le_refl _))) k) _) $$ [H4 HO]
  · isplitr; · iexact HR
    isplitl [H4]; · iexact H4
    iexact HO
  iintro ⟨H4, HO⟩
  iapply (wp_loop m K c Q (fun j => box c 5 (rOf j)) (fun j => got m c 5 (rOf j)) (fun _ => owesE c 32) (step5 c 5 3) 2 6
    (fun j h h' k => wp_stepL m K c Q 5 1 3 32 j rfl (Or.inr (Or.inr (Or.inr (Or.inr ⟨rfl, (at068 h h').1⟩)))) (Or.inr (Or.inr (le_refl _))) k) _) $$ [H5 HO]
  · isplitr; · iexact HR
    isplitl [H5]; · iexact H5
    iexact HO
  iintro ⟨H5, HO⟩
  iapply Hk
  isplitr [HO]
  · isplitl [H0]; · iexact H0
    isplitl [H2a]; · iexact H2a
    isplitl [H2b]; · iexact H2b
    isplitl [H2c]; · iexact H2c
    isplitl [H3a]; · iexact H3a
    isplitl [H3b]; · iexact H3b
    isplitl [H1]; · iexact H1
    isplitl [H4]; · iexact H4
    iexact H5
  iexact HO

/-! ## The third part -/

/-- A write-out waited for. -/
theorem wp_stepW (p : Fin 6) (g : Fin 4) (j : ℕ) (hg : rg p = g) (k : Op F) :
    iprop(records m K ∗ got m c p (rOf j) ∗ owesE c 32)
      ⊢ iprop(((kept m c p (rOf j) ∗ owesE c 32) -∗ run c k Q) -∗ run c (stepW c p g j k) Q) := by
  subst hg
  unfold got kept stepW
  iintro ⟨#HR, ⟨HL, Hz⟩, HO⟩ Hk
  iapply (op_landWait m K c (rg p) (rOf j) 32 (fun _ => k) Q p) $$ [HL HO]
  · isplitr; · iexact HR
    isplitl [HL]; · iexact HL
    iexact HO
  iintro ⟨Ht, Hs, HO⟩
  iapply Hk
  isplitr [HO]
  · isplitl [Ht]; · iexact Ht
    isplitl [Hs]; · iexact Hs
    iexact Hz
  iexact HO

/-- A read-out waited for, whether the result's chunk was the source -/
theorem wp_stepSM (p : Fin 6) (g : Fin 4) (j : ℕ) (hu : used p (rOf j)) (k : Op F) :
    iprop(records m K ∗ sent c p (rOf j) ∗ owesE c 32)
      ⊢ iprop(((back m c p (rOf j) ∗ owesE c 32) -∗ run c k Q) -∗ run c (stepSM c p g j k) Q) := by
  unfold back stepSM
  iintro H Hk
  iapply (op_sendWaitM m K c g (rOf j) (fun _ => k) Q p hu) $$ H
  iintro ⟨Hp, Hz, HO⟩
  iapply Hk
  isplitr [HO]
  · isplitl [Hp]; · iexact Hp
    iexact Hz
  iexact HO
/-- or the receive buffer's. -/
theorem wp_stepSR (p : Fin 6) (g : Fin 4) (j : ℕ) (hu : used p (rOf j)) (k : Op F) :
    iprop(records m K ∗ sent c p (rOf j) ∗ owesE c 32)
      ⊢ iprop(((back m c p (rOf j) ∗ owesE c 32) -∗ run c k Q) -∗ run c (stepSR c p g j k) Q) := by
  unfold back stepSR
  iintro H Hk
  iapply (op_sendWaitR m K c g (rOf j) (fun _ => k) Q p hu) $$ H
  iintro ⟨Hp, Hz, HO⟩
  iapply Hk
  isplitr [HO]
  · isplitl [Hp]; · iexact Hp
    iexact Hz
  iexact HO
theorem wp_stepS2 (j : ℕ) (k : Op F) :
    iprop(records m K ∗ (sent c 2 (rOf j) ∗ sent c 3 (rOf j)) ∗ owesE c 32)
      ⊢ iprop((((back m c 2 (rOf j) ∗ back m c 3 (rOf j)) ∗ owesE c 32) -∗ run c k Q) -∗ run c (stepS2 c j k) Q) := by
  unfold stepS2
  iintro ⟨#HR, ⟨H2, H3⟩, HO⟩ Hk
  iapply (wp_stepSR m K c Q 2 0 j (Or.inr (Or.inl rfl)) _) $$ [H2 HO]
  · isplitr; · iexact HR
    isplitl [H2]; · iexact H2
    iexact HO
  iintro ⟨H2, HO⟩
  iapply (wp_stepSR m K c Q 3 0 j (Or.inr (Or.inr (Or.inl rfl))) k) $$ [H3 HO]
  · isplitr; · iexact HR
    isplitl [H3]; · iexact H3
    iexact HO
  iintro ⟨H3, HO⟩
  iapply Hk
  isplitr [HO]
  · isplitl [H2]; · iexact H2
    iexact H3
  iexact HO

/-- A loop of the third part: nothing is owed throughout. -/
theorem wp_loop3 (Pre Pst : ℕ → As F) (f : ℕ → Op F → Op F) (n i : ℕ)
    (step : ∀ j, i ≤ j → j < i + n → ∀ k, iprop(records m K ∗ Pre j ∗ owesE c 32) ⊢ iprop(((Pst j ∗ owesE c 32) -∗ run c k Q) -∗ run c (f j k) Q)) (k : Op F) :
    iprop(records m K ∗ bigSep (Finset.Ico i (i + n)) Pre ∗ owesE c 32)
      ⊢ iprop(((bigSep (Finset.Ico i (i + n)) Pst ∗ owesE c 32) -∗ run c k Q) -∗ run c (loop f n i k) Q) :=
  wp_loop m K c Q Pre Pst (fun _ => owesE c 32) f n i step k

/-- Phase `p`'s pieces over the chunks it moves. -/
abbrev over (Φ : Fin 6 → Fin 8 → As F) (p : Fin 6) (a b : ℕ) : As F := bigSep (Finset.Ico a b) fun j => Φ p (rOf j)
/-- All phases' pieces. -/
def all (Φ : Fin 6 → Fin 8 → As F) : As F :=
  iprop(over Φ 0 0 8 ∗ over Φ 1 0 3 ∗ over Φ 2 0 8 ∗ over Φ 3 0 8 ∗ over Φ 4 3 6 ∗ over Φ 5 6 8)

theorem wp_part3 (k : Op F) :
    iprop(records m K ∗ all (got m c) ∗ all (fun p r => sent c p r) ∗ owesE c 32)
      ⊢ iprop(((all (kept m c) ∗ all (back m c) ∗ owesE c 32) -∗ run c k Q) -∗ run c (part3 c k) Q) := by
  unfold all part3
  iintro ⟨#HR, ⟨H0, H1, H2, H3, H4, H5⟩, ⟨S0, S1, S2, S3, S4, S5⟩, HO⟩ Hk
  iapply (wp_loop3 m K c Q (fun j => got m c 0 (rOf j)) (fun j => kept m c 0 (rOf j)) (stepW c 0 0) 8 0 (fun j _ _ k => wp_stepW m K c Q 0 0 j rfl k) _) $$ [H0 HO]
  · isplitr; · iexact HR
    isplitl [H0]; · iexact H0
    iexact HO
  iintro ⟨H0, HO⟩
  iapply (wp_loop3 m K c Q (fun j => got m c 2 (rOf j)) (fun j => kept m c 2 (rOf j)) (stepW c 2 2) 8 0 (fun j _ _ k => wp_stepW m K c Q 2 2 j rfl k) _) $$ [H2 HO]
  · isplitr; · iexact HR
    isplitl [H2]; · iexact H2
    iexact HO
  iintro ⟨H2, HO⟩
  iapply (wp_loop3 m K c Q (fun j => got m c 3 (rOf j)) (fun j => kept m c 3 (rOf j)) (stepW c 3 3) 8 0 (fun j _ _ k => wp_stepW m K c Q 3 3 j rfl k) _) $$ [H3 HO]
  · isplitr; · iexact HR
    isplitl [H3]; · iexact H3
    iexact HO
  iintro ⟨H3, HO⟩
  iapply (wp_loop3 m K c Q (fun j => got m c 1 (rOf j)) (fun j => kept m c 1 (rOf j)) (stepW c 1 1) 3 0 (fun j _ _ k => wp_stepW m K c Q 1 1 j rfl k) _) $$ [H1 HO]
  · isplitr; · iexact HR
    isplitl [H1]; · iexact H1
    iexact HO
  iintro ⟨H1, HO⟩
  iapply (wp_loop3 m K c Q (fun j => got m c 4 (rOf j)) (fun j => kept m c 4 (rOf j)) (stepW c 4 1) 3 3 (fun j _ _ k => wp_stepW m K c Q 4 1 j rfl k) _) $$ [H4 HO]
  · isplitr; · iexact HR
    isplitl [H4]; · iexact H4
    iexact HO
  iintro ⟨H4, HO⟩
  iapply (wp_loop3 m K c Q (fun j => got m c 5 (rOf j)) (fun j => kept m c 5 (rOf j)) (stepW c 5 1) 2 6 (fun j _ _ k => wp_stepW m K c Q 5 1 j rfl k) _) $$ [H5 HO]
  · isplitr; · iexact HR
    isplitl [H5]; · iexact H5
    iexact HO
  iintro ⟨H5, HO⟩
  iapply (wp_loop3 m K c Q (fun j => sent c 0 (rOf j)) (fun j => back m c 0 (rOf j)) (stepSM c 0 0) 8 0
    (fun j _ _ k => wp_stepSM m K c Q 0 0 j (Or.inl (Or.inl rfl)) k) _) $$ [S0 HO]
  · isplitr; · iexact HR
    isplitl [S0]; · iexact S0
    iexact HO
  iintro ⟨S0, HO⟩
  iapply (wp_loop3 m K c Q (fun j => sent c 1 (rOf j)) (fun j => back m c 1 (rOf j)) (stepSM c 1 1) 3 0
    (fun j _ h k => wp_stepSM m K c Q 1 1 j (Or.inl (Or.inr ⟨rfl, at003 h⟩)) k) _) $$ [S1 HO]
  · isplitr; · iexact HR
    isplitl [S1]; · iexact S1
    iexact HO
  iintro ⟨S1, HO⟩
  iapply (wp_loop3 m K c Q (fun j => iprop(sent c 2 (rOf j) ∗ sent c 3 (rOf j))) (fun j => iprop(back m c 2 (rOf j) ∗ back m c 3 (rOf j))) (stepS2 c) 8 0
    (fun j _ _ k => wp_stepS2 m K c Q j k) _) $$ [S2 S3 HO]
  · isplitr; · iexact HR
    isplitl [S2 S3]
    · rw [bigSep_sep']; isplitl [S2]; · iexact S2
      iexact S3
    iexact HO
  iintro ⟨S23, HO⟩
  ihave S23 := (show (bigSep (Finset.Ico 0 (0 + 8)) fun j => iprop(back m c 2 (rOf j) ∗ back m c 3 (rOf j)) : As F)
      ⊢ iprop((bigSep (Finset.Ico 0 8) fun j => back m c 2 (rOf j)) ∗ bigSep (Finset.Ico 0 8) fun j => back m c 3 (rOf j))
    from Entails.of_eq (bigSep_sep' (Finset.Ico 0 8) _ _)) $$ S23
  icases S23 with ⟨S2, S3⟩
  iapply (wp_loop3 m K c Q (fun j => sent c 4 (rOf j)) (fun j => back m c 4 (rOf j)) (stepSR c 4 2) 3 3
    (fun j h h' k => wp_stepSR m K c Q 4 2 j (Or.inr (Or.inr (Or.inr (Or.inl ⟨rfl, (at036 h h').1⟩)))) k) _) $$ [S4 HO]
  · isplitr; · iexact HR
    isplitl [S4]; · iexact S4
    iexact HO
  iintro ⟨S4, HO⟩
  iapply (wp_loop3 m K c Q (fun j => sent c 5 (rOf j)) (fun j => back m c 5 (rOf j)) (stepSR c 5 3) 2 6
    (fun j h h' k => wp_stepSR m K c Q 5 3 j (Or.inr (Or.inr (Or.inr (Or.inr ⟨rfl, (at068 h h').1⟩)))) k) _) $$ [S5 HO]
  · isplitr; · iexact HR
    isplitl [S5]; · iexact S5
    iexact HO
  iintro ⟨S5, HO⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitr [HO]
  · isplitl [S0]; · iexact S0
    isplitl [S1]; · iexact S1
    isplitl [S2]; · iexact S2
    isplitl [S3]; · iexact S3
    isplitl [S4]; · iexact S4
    iexact S5
  iexact HO

/-! ## The body -/

theorem ico_join {a b d : ℕ} (hab : a ≤ b) (hbd : b ≤ d) (Φ : ℕ → As F) :
    bigSep (Finset.Ico a d) Φ = iprop(bigSep (Finset.Ico a b) Φ ∗ bigSep (Finset.Ico b d) Φ) := by
  rw [← Finset.Ico_union_Ico_eq_Ico hab hbd]
  exact bigSep_union (Finset.Ico_disjoint_Ico_consecutive a b d)
theorem ico_shift (a b k : ℕ) (Φ : ℕ → As F) : bigSep (Finset.Ico (a + k) (b + k)) Φ = bigSep (Finset.Ico a b) fun j => Φ (j + k) := by
  rw [← Finset.image_add_right_Ico]
  exact bigSep_image_of_injOn (fun _ _ _ _ h => Nat.add_right_cancel h) Φ
/-- The eleven chunks sent first, as they are numbered in the half and in the quarter. -/
theorem ico_quarter (p : Fin 6) (Φ : Fin 6 → Fin 8 → As F) : (bigSep (Finset.Ico 8 11) fun j => Φ p (rOf j)) = over Φ p 0 3 := by
  rw [ico_shift 0 3 8]
  exact bigSep_congr fun j _ => by rw [show rOf (j + 8) = rOf j from Fin.ext (Nat.add_mod_right j 8)]

/-- What the body runs from: the operand's chunks, the result's own half, every leg's and every landing's pieces, the
    staging slots, and what is owed. -/
def start (c : Dev nD) : As F :=
  iprop((bigSep (Finset.Ico 0 32) fun j => xPt c (qOf j) (rOf j) fullShare.right (X m c))
    ∗ (bigSep (Finset.Ico 0 32) fun j => mAny c (qOf j) (rOf j))
    ∗ all (fun p r => ticket c p r) ∗ all (fun p r => box c p r)
    ∗ viFree c 0 ∗ viFree c 1 ∗ voFree c 0 ∗ voFree c 1 ∗ owesE c 0)
/-- What it ends with. -/
def finish (c : Dev nD) : As F :=
  iprop((bigSep (Finset.Ico 11 32) fun j => mPt c (qOf j) (rOf j) (Ov (X m) c))
    ∗ all (kept m c) ∗ all (back m c) ∗ viFree c 0 ∗ viFree c 1 ∗ voFree c 0 ∗ voFree c 1 ∗ owesE c 32)

theorem start_split : start m c ⊢ iprop(pre1 m c ∗ pre2 c) := by
  unfold start all
  have hx : (bigSep (Finset.Ico 0 32) fun j => xPt c (qOf j) (rOf j) fullShare.right (X m c) : As F)
      = iprop(xPt c 0 0 fullShare.right (X m c) ∗ bigSep (Finset.Ico 0 31) fun j => xPt c (qOf (j + 1)) (rOf (j + 1)) fullShare.right (X m c)) := by
    rw [bigSep_Ico_succ_bot (by decide)]
    exact congrArg _ (ico_shift 0 31 1 fun j => xPt c (qOf j) (rOf j) fullShare.right (X m c))
  have hm : (bigSep (Finset.Ico 0 32) fun j => mAny c (qOf j) (rOf j) : As F)
      = iprop((bigSep (Finset.Ico 0 31) fun j => mAny c (qOf j) (rOf j)) ∗ mAny c 3 7) :=
    (ico_join (by decide) (by decide) _).trans (congrArg _ (bigSep_Ico_one 31 _))
  have hs : (bigSep (Finset.Ico 0 31) (stage m c) : As F)
      = iprop(bigSep (Finset.Ico 0 8) (stage m c) ∗ bigSep (Finset.Ico 8 11) (stage m c) ∗ stage m c 11 ∗ stage m c 12 ∗ bigSep (Finset.Ico 13 31) (stage m c)) := by
    rw [ico_join (a := 0) (b := 8) (d := 31) (by decide) (by decide), ico_join (a := 8) (b := 11) (d := 31) (by decide) (by decide),
      bigSep_Ico_succ_bot (a := 11) (by decide), bigSep_Ico_succ_bot (a := 11 + 1) (by decide)]
  have hst : (iprop((bigSep (Finset.Ico 0 31) fun j => xPt c (qOf (j + 1)) (rOf (j + 1)) fullShare.right (X m c)) ∗ bigSep (Finset.Ico 0 31) fun j => mAny c (qOf j) (rOf j)) : As F)
      = bigSep (Finset.Ico 0 31) (stage m c) := (bigSep_sep' _ _ _).symm
  rw [hx, hm]
  unfold over pre1 pre2
  rw [bigSep_sep' (Finset.Ico 0 8) (stage m c), bigSep_sep' (Finset.Ico 8 11) (stage m c), bigSep_sep' (Finset.Ico 0 8) (fun j => box c 0 (rOf j)),
    bigSep_sep' (Finset.Ico 0 8) (fun j => ticket c 2 (rOf j)), bigSep_sep' (Finset.Ico 3 6) (fun j => box c 2 (rOf j)),
    bigSep_sep' (Finset.Ico 6 8) (fun j => box c 3 (rOf j)), ico_quarter 1 fun p r => ticket c p r,
    ico_join (a := 0) (b := 3) (d := 8) (by decide) (by decide) fun j => box c 2 (rOf j), ico_join (a := 3) (b := 6) (d := 8) (by decide) (by decide) fun j => box c 2 (rOf j),
    ico_join (a := 0) (b := 6) (d := 8) (by decide) (by decide) fun j => box c 3 (rOf j)]
  iintro ⟨⟨Hx0, Hx⟩, ⟨Hm, Hm37⟩, ⟨T0, T1, T2, T3, T4, T5⟩, ⟨B0, B1, ⟨B2a, B2b, B2c⟩, ⟨B3a, B3b⟩, B4, B5⟩, Hv0, Hv1, Hw0, Hw1, HO⟩
  ihave Hs := (Entails.of_eq (hst.trans hs)) $$ [Hx Hm]
  · isplitl [Hx]; · iexact Hx
    iexact Hm
  icases Hs with ⟨Sa, Sb, S11, S12, Sd⟩
  isplitl [Hx0 Sa Sb S11 S12 Sd T0 T1 Hm37 Hv0 Hv1 Hw0 Hw1 HO]
  · isplitl [Hx0]; · iexact Hx0
    isplitl [Sa T0]
    · isplitl [Sa]; · iexact Sa
      iexact T0
    isplitl [Sb T1]
    · isplitl [Sb]; · iexact Sb
      iexact T1
    isplitl [S11]; · iexact S11
    isplitl [S12]; · iexact S12
    isplitl [Sd]; · iexact Sd
    isplitl [Hm37]; · iexact Hm37
    isplitl [Hv0]; · iexact Hv0
    isplitl [Hv1]; · iexact Hv1
    isplitl [Hw0]; · iexact Hw0
    isplitl [Hw1]; · iexact Hw1
    iexact HO
  isplitl [B0 T2 T3]
  · isplitl [B0]; · iexact B0
    isplitl [T2]; · iexact T2
    iexact T3
  isplitl [B2a]; · iexact B2a
  isplitl [B2b T4]
  · isplitl [B2b]; · iexact B2b
    iexact T4
  isplitl [B2c]; · iexact B2c
  isplitl [B3a]; · iexact B3a
  isplitl [B3b T5]
  · isplitl [B3b]; · iexact B3b
    iexact T5
  isplitl [B1]; · iexact B1
  isplitl [B4]; · iexact B4
  iexact B5

/-- What the second part leaves, by phase. -/
theorem post2_join : post2 m c ⊢ iprop(all (got m c) ∗ over (fun p r => sent c p r) 2 0 8 ∗ over (fun p r => sent c p r) 3 0 8
    ∗ over (fun p r => sent c p r) 4 3 6 ∗ over (fun p r => sent c p r) 5 6 8) := by
  unfold post2 all over
  rw [bigSep_sep' (Finset.Ico 0 8) (fun j => got m c 0 (rOf j)),
    bigSep_sep' (Finset.Ico 0 8) (fun j => sent c 2 (rOf j)), bigSep_sep' (Finset.Ico 3 6) (fun j => got m c 2 (rOf j)),
    bigSep_sep' (Finset.Ico 6 8) (fun j => got m c 3 (rOf j)),
    ico_join (a := 0) (b := 3) (d := 8) (by decide) (by decide) fun j => got m c 2 (rOf j), ico_join (a := 3) (b := 6) (d := 8) (by decide) (by decide) fun j => got m c 2 (rOf j),
    ico_join (a := 0) (b := 6) (d := 8) (by decide) (by decide) fun j => got m c 3 (rOf j)]
  iintro ⟨⟨G0, S2, S3⟩, G2a, ⟨G2b, S4⟩, G2c, G3a, ⟨G3b, S5⟩, G1, G4, G5⟩
  isplitl [G0 G1 G2a G2b G2c G3a G3b G4 G5]
  · isplitl [G0]; · iexact G0
    isplitl [G1]; · iexact G1
    isplitl [G2a G2b G2c]
    · isplitl [G2a]; · iexact G2a
      isplitl [G2b]; · iexact G2b
      iexact G2c
    isplitl [G3a G3b]
    · isplitl [G3a]; · iexact G3a
      iexact G3b
    isplitl [G4]; · iexact G4
    iexact G5
  isplitl [S2]; · iexact S2
  isplitl [S3]; · iexact S3
  isplitl [S4]; · iexact S4
  iexact S5

/-- The own half's chunks that are not sent, together. -/
theorem own_join : iprop((bigSep (Finset.Ico 13 31) fun j => mPt c (qOf (j - 2)) (rOf (j - 2)) (Ov (X m) c))
    ∗ mPt c 3 5 (Ov (X m) c) ∗ mPt c 3 6 (Ov (X m) c) ∗ mPt c 3 7 (Ov (X m) c))
      = (bigSep (Finset.Ico 11 32) fun j => mPt c (qOf j) (rOf j) (Ov (X m) c) : As F) := by
  have h : (bigSep (Finset.Ico 13 31) fun j => mPt c (qOf (j - 2)) (rOf (j - 2)) (Ov (X m) c) : As F)
      = bigSep (Finset.Ico 11 29) fun j => mPt c (qOf j) (rOf j) (Ov (X m) c) :=
    (ico_shift 11 29 2 _).trans (bigSep_congr fun j _ => by rw [Nat.add_sub_cancel])
  rw [h, ico_join (a := 11) (b := 29) (d := 32) (by decide) (by decide), bigSep_Ico_succ_bot (a := 29) (by decide),
    bigSep_Ico_succ_bot (a := 29 + 1) (by decide), bigSep_Ico_one]
  rfl

/-- The body, run on device `c`. -/
theorem wp_prog : iprop(records m K ∗ start m c) ⊢ run c (prog (F := F)) (fun _ => finish m c) := by
  have e : run c (prog (F := F)) (fun _ => finish m c) = run c (part1 c (part2 c (part3 c (Prog.ret ⟨⟩)))) (fun _ => finish m c) := by
    unfold prog run
    rw [wp_deviceId]
  rw [e]
  iintro ⟨#HR, H⟩
  ihave H := (start_split m c) $$ H
  icases H with ⟨H1, H2⟩
  iapply (wp_part1 m K c _ _) $$ [H1]
  · isplitr; · iexact HR
    iexact H1
  unfold post1
  iintro ⟨S0, S1, Ma, Mb, Mc, Md, Hv0, Hv1, Hw0, Hw1, HO⟩
  iapply (wp_part2 m K c _ _) $$ [H2 HO]
  · isplitr; · iexact HR
    isplitl [H2]; · iexact H2
    iexact HO
  iintro ⟨H, HO⟩
  ihave H := (post2_join m c) $$ H
  icases H with ⟨G, S2, S3, S4, S5⟩
  iapply (wp_part3 m K c _ _) $$ [G S0 S1 S2 S3 S4 S5 HO]
  · isplitr; · iexact HR
    isplitl [G]; · iexact G
    isplitr [HO]
    · unfold all
      isplitl [S0]; · iexact S0
      isplitl [S1]; · rw [← ico_quarter 1 fun p r => sent c p r]; iexact S1
      isplitl [S2]; · iexact S2
      isplitl [S3]; · iexact S3
      isplitl [S4]; · iexact S4
      iexact S5
    iexact HO
  iintro ⟨Hk, Hb, HO⟩
  unfold run
  rw [wp_ret]
  imodintro
  unfold finish
  isplitl [Ma Mb Mc Md]
  · rw [← own_join]
    isplitl [Ma]; · iexact Ma
    isplitl [Mb]; · iexact Mb
    isplitl [Mc]; · iexact Mc
    iexact Md
  isplitl [Hk]; · iexact Hk
  isplitl [Hb]; · iexact Hb
  isplitl [Hv0]; · iexact Hv0
  isplitl [Hv1]; · iexact Hv1
  isplitl [Hw0]; · iexact Hw0
  isplitl [Hw1]; · iexact Hw1
  iexact HO

end Cert.Proof

end
-- ==== Proof.Pieces.lean ====
/-
  The launch's holdings cut into the body's pieces, and the body's pieces put together again: the legs phase by phase,
  the arrays chunk by chunk, the staging buffers slot by slot, the semaphores by what they are for.
-/
module

public import proofs.«01_k».proof.Proof.Parts
public import Idealize.SL.ProofMode.BigOp

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)
variable (c : Dev nD)

/-! ## The legs, phase by phase -/

/-- The legs of one phase, over a range of its chunks. -/
def rng (p : Fin 6) (a b : ℕ) : Finset Leg := (Finset.Ico a b).image fun j => (p, rOf j)

theorem legs_rng : legs = rng 0 0 8 ∪ (rng 1 0 3 ∪ (rng 2 0 8 ∪ (rng 3 0 8 ∪ (rng 4 3 6 ∪ rng 5 6 8)))) := by decide +kernel

theorem bigSep_rng (p : Fin 6) (a b : ℕ) (hb : b ≤ 8) (Φ : Leg → As F) : bigSep (rng p a b) Φ = over (fun p r => Φ (p, r)) p a b := by
  refine bigSep_image_of_injOn (fun i hi j hj h => ?_) Φ
  have hi := (Finset.mem_Ico.mp hi).2
  have hj := (Finset.mem_Ico.mp hj).2
  have h := congrArg Fin.val (congrArg Prod.snd h)
  rwa [show (rOf i).val = i from rOf_lt (by omega), show (rOf j).val = j from rOf_lt (by omega)] at h

/-- A conjunction over the legs is the phases' conjunctions. -/
theorem bigSep_legs (Φ : Leg → As F) : bigSep legs Φ = all fun p r => Φ (p, r) := by
  rw [legs_rng, bigSep_union (by decide +kernel), bigSep_union (by decide +kernel), bigSep_union (by decide +kernel),
    bigSep_union (by decide +kernel), bigSep_union (by decide +kernel), bigSep_rng 0 0 8 (by decide), bigSep_rng 1 0 3 (by decide),
    bigSep_rng 2 0 8 (by decide), bigSep_rng 3 0 8 (by decide), bigSep_rng 4 3 6 (by decide), bigSep_rng 5 6 8 (by decide)]
  rfl

/-! ## Arrays, chunk by chunk -/

/-- A buffer is its pieces, along a family of disjoint sets that cover it. -/
theorem cut {T : Type} (S : Finset T) (ℓ : Loc nD τ sig) (A : T → Finset (Idx ℓ))
    (disj : ∀ t ∈ S, ∀ t' ∈ S, t ≠ t' → Disjoint (A t) (A t')) (cover : ∀ i, ∃ t ∈ S, i ∈ A t) (q : PosShare TreeShare) (f : Buf (Elt F) ℓ) :
    (ℓ ↦{q} f : As F) = bigSep S fun t => ℓ ↦[A t]{q} f := by
  rw [← pointsTo_biUnion S A disj]
  congr 1
  exact (Finset.eq_univ_iff_forall.mpr fun i => Finset.mem_biUnion.mpr (cover i)).symm

theorem half_lt (i : S32768x1024.Idx) : (i 0).val / 1024 < 32 := by
  have h : (i 0).val < 32768 := (i 0).isLt
  omega
theorem full_lt (i : S65536x1024.Idx) : (i 0).val / 1024 < 64 := by
  have h : (i 0).val < 65536 := (i 0).isLt
  omega

theorem hSet_mem (i : S32768x1024.Idx) : i ∈ hSet ((i 0).val / 1024) := Finset.mem_filter.mpr ⟨Finset.mem_univ _, rfl⟩

/-- The own chunks are the blocks of a half, -/
theorem own_inj : ∀ (c : Dev nD), ∀ j ∈ Finset.Ico 0 32, ∀ j' ∈ Finset.Ico 0 32, j ≠ j' → blk c (qOf j) (rOf j) ≠ blk c (qOf j') (rOf j') := by
  decide +kernel
theorem own_onto : ∀ (c : Dev nD) (b : Fin 32), ∃ j ∈ Finset.Ico 0 32, blk c (qOf j) (rOf j) = b.val := by decide +kernel
/-- and so are the chunks that land. -/
theorem land_inj : ∀ l ∈ legs, ∀ l' ∈ legs, l ≠ l' → (rg l.1, l.2) ≠ (rg l'.1, l'.2) := by decide +kernel
theorem land_onto : ∀ (c : Dev nD) (b : Fin 32), ∃ l ∈ legs, blk c (rg l.1) l.2 = b.val := by decide +kernel
theorem land_blk {l l' : Leg} (hl : l ∈ legs) (hl' : l' ∈ legs) (h : l ≠ l') : blk c (rg l.1) l.2 ≠ blk c (rg l'.1) l'.2 := fun e =>
  land_inj l hl l' hl' h (Prod.ext (blk_inj c e).1 (blk_inj c e).2)

theorem x_at (g : Fin 4) (r : Fin 8) (q : PosShare TreeShare) (f : Half F) :
    (xPt c g r q f : As F) = ((c : Thread nD τ).loc main_arg0 ↦[hSet (blk c g r)]{q} f) := by
  show ((c : Thread nD τ).loc main_arg0 ↦[(xC c g r).view.set]{q} f : As F) = _
  rw [x_set]
theorem r_at (g : Fin 4) (r : Fin 8) (q : PosShare TreeShare) (f : Half F) :
    (rPt c c g r q f : As F) = ((c : Thread nD τ).loc main_v1_1 ↦[hSet (blk c g r)]{q} f) := by
  show ((c : Thread nD τ).loc main_v1_1 ↦[(rC c g r).view.set]{q} f : As F) = _
  rw [r_set]

theorem x_cut (q : PosShare TreeShare) (f : Half F) :
    ((c : Thread nD τ).loc main_arg0 ↦{q} f : As F) = bigSep (Finset.Ico 0 32) fun j => xPt c (qOf j) (rOf j) q f :=
  (cut (Finset.Ico 0 32) ((c : Thread nD τ).loc main_arg0) (fun j => hSet (blk c (qOf j) (rOf j)))
    (fun j hj j' hj' h => hSet_disj (own_inj c j hj j' hj' h))
    (fun i => by
      obtain ⟨j, hj, e⟩ := own_onto c ⟨_, half_lt i⟩
      exact ⟨j, hj, by show i ∈ hSet _; rw [e]; exact hSet_mem i⟩) q f).trans (bigSep_congr fun j _ => (x_at c _ _ q f).symm)

theorem r_cut (f : Half F) :
    ((c : Thread nD τ).loc main_v1_1 ↦{fullShare} f : As F) = bigSep legs fun l => rPt c c (rg l.1) l.2 fullShare f :=
  (cut legs ((c : Thread nD τ).loc main_v1_1) (fun l => hSet (blk c (rg l.1) l.2))
    (fun l hl l' hl' h => hSet_disj (land_blk c hl hl' h))
    (fun i => by
      obtain ⟨l, hl, e⟩ := land_onto c ⟨_, half_lt i⟩
      exact ⟨l, hl, by show i ∈ hSet _; rw [e]; exact hSet_mem i⟩) fullShare f).trans (bigSep_congr fun l _ => (r_at c _ _ fullShare f).symm)

/-- The result is its own half's chunks and the other half's. -/
theorem o_cut (f : Full F) :
    ((c : Thread nD τ).loc main_v1_0 ↦{fullShare} f : As F)
      = iprop((bigSep (Finset.Ico 0 32) fun j => mPt c (qOf j) (rOf j) f) ∗ bigSep legs fun l => tPt c (rg l.1) l.2 f) := by
  have hc : c.val < 8 := c.isLt
  let A : Bool → Finset S65536x1024.Idx := fun b =>
    if b then (Finset.Ico 0 32).biUnion fun j => (mC c (qOf j) (rOf j)).view.set else legs.biUnion fun l => (tC c (rg l.1) l.2).view.set
  have hA (b : Bool) (i) : i ∈ A b ↔ (i 0).val / 32768 = if b then c.val / 4 else 1 - c.val / 4 := by
    have hi := full_lt i
    cases b
    · simp only [A, Bool.false_eq_true, if_false, Finset.mem_biUnion]
      constructor
      · rintro ⟨l, -, h⟩
        rw [t_set] at h
        have h := (Finset.mem_filter.mp h).2
        have := blk_lt c (rg l.1) l.2
        omega
      · intro h
        obtain ⟨l, hl, e⟩ := land_onto c ⟨(i 0).val / 1024 - 32 * (1 - c.val / 4), by omega⟩
        refine ⟨l, hl, ?_⟩
        rw [t_set]
        refine Finset.mem_filter.mpr ⟨Finset.mem_univ _, ?_⟩
        rw [e]; show _ = 32 * (1 - c.val / 4) + ((i 0).val / 1024 - 32 * (1 - c.val / 4)); omega
    · simp only [A, if_true, Finset.mem_biUnion]
      constructor
      · rintro ⟨j, -, h⟩
        rw [m_set] at h
        have h := (Finset.mem_filter.mp h).2
        have := blk_lt c (qOf j) (rOf j)
        omega
      · intro h
        obtain ⟨j, hj, e⟩ := own_onto c ⟨(i 0).val / 1024 - 32 * (c.val / 4), by omega⟩
        refine ⟨j, hj, ?_⟩
        rw [m_set]
        refine Finset.mem_filter.mpr ⟨Finset.mem_univ _, ?_⟩
        rw [e]; show _ = 32 * (c.val / 4) + ((i 0).val / 1024 - 32 * (c.val / 4)); omega
  have e := cut (Finset.univ : Finset Bool) ((c : Thread nD τ).loc main_v1_0) A
    (fun b _ b' _ h => Finset.disjoint_left.mpr fun i hi hi' => by
      have h1 := (hA b i).mp hi
      have h2 := (hA b' i).mp hi'
      cases b <;> cases b'
      · exact h rfl
      · simp only [Bool.false_eq_true, if_false, if_true] at h1 h2; omega
      · simp only [Bool.false_eq_true, if_false, if_true] at h1 h2; omega
      · exact h rfl)
    (fun i => by
      have hi := full_lt i
      by_cases h : (i 0).val / 32768 = c.val / 4
      · exact ⟨true, Finset.mem_univ _, (hA true i).mpr h⟩
      · exact ⟨false, Finset.mem_univ _, (hA false i).mpr (by show _ = 1 - c.val / 4; omega)⟩) fullShare f
  rw [e, show (Finset.univ : Finset Bool) = insert true {false} from by decide, bigSep_insert (by decide), bigSep_singleton]
  show (iprop(((c : Thread nD τ).loc main_v1_0 ↦[A true]{fullShare} f) ∗ ((c : Thread nD τ).loc main_v1_0 ↦[A false]{fullShare} f)) : As F) = _
  have e1 : ((c : Thread nD τ).loc main_v1_0 ↦[A true]{fullShare} f : As F) = bigSep (Finset.Ico 0 32) fun j => mPt c (qOf j) (rOf j) f :=
    pointsTo_biUnion (ℓ := (c : Thread nD τ).loc main_v1_0) (Finset.Ico 0 32) (fun j => (mC c (qOf j) (rOf j)).view.set) fun j hj j' hj' h => by
      rw [m_set, m_set]; exact fSet_disj fun e => own_inj c j hj j' hj' h (by omega)
  have e2 : ((c : Thread nD τ).loc main_v1_0 ↦[A false]{fullShare} f : As F) = bigSep legs fun l => tPt c (rg l.1) l.2 f :=
    pointsTo_biUnion (ℓ := (c : Thread nD τ).loc main_v1_0) legs (fun l => (tC c (rg l.1) l.2).view.set) fun l hl l' hl' h => by
      rw [t_set, t_set]; exact fSet_disj fun e => land_blk c hl hl' h (by omega)
  rw [e1, e2]

/-! ## The staging buffers, slot by slot -/

theorem slot_mem (s : Fin 2) (i : S2x1024x1024.Idx) : i ∈ (slotRect s).set ↔ (i 0).val = s.val := by
  have h1 : (i 1).val < 1024 := (i 1).isLt
  have h2 : (i 2).val < 1024 := (i 2).isLt
  rw [Rect.mem_set_unit]
  constructor
  · intro h
    have h := h 0
    have ha : (![s.val, 0, 0] : Fin 3 → ℕ) 0 = s.val := rfl
    have hb : S1x1024x1024.size 0 = 1 := rfl
    omega
  · intro h a
    match a with
    | ⟨0, _⟩ => exact ⟨Nat.le_of_eq h.symm, by show (i 0).val < s.val + 1; omega⟩
    | ⟨1, _⟩ => exact ⟨Nat.zero_le _, by show (i 1).val < 0 + 1024; omega⟩
    | ⟨2, _⟩ => exact ⟨Nat.zero_le _, by show (i 2).val < 0 + 1024; omega⟩

theorem slot_disj : Disjoint (slotRect 0).set (slotRect 1).set :=
  Finset.disjoint_left.mpr fun i h h' => absurd (((slot_mem 0 i).mp h).symm.trans ((slot_mem 1 i).mp h')) (by decide)
theorem slot_union : (slotRect 0).set ∪ (slotRect 1).set = Finset.univ :=
  Finset.eq_univ_iff_forall.mpr fun i => by
    have h : (i 0).val < 2 := (i 0).isLt
    rw [Finset.mem_union, slot_mem, slot_mem]
    show (i 0).val = 0 ∨ (i 0).val = 1
    omega

theorem vi_slot (s : Fin 2) (f : Slots F) : (viPt c s f : As F) = ((c : Thread nD τ).loc cc0_scratch0 ↦[(slotRect s).set]{fullShare} f) := by
  show ((c : Thread nD τ).loc cc0_scratch0 ↦[(viC s).view.set]{fullShare} f : As F) = _
  rw [vi_set]
theorem vi_cut : (iprop(∃ f : Buf (Elt F) ((c : Thread nD τ).loc cc0_scratch0), (c : Thread nD τ).loc cc0_scratch0 ↦{fullShare} f) : As F)
    ⊢ iprop((∃ f, viPt c 0 f) ∗ ∃ f, viPt c 1 f) := by
  iintro ⟨%f, H⟩
  ihave H := (show ((c : Thread nD τ).loc cc0_scratch0 ↦{fullShare} f : As F) ⊢ iprop(viPt c 0 f ∗ viPt c 1 f) from by
    rw [show ((c : Thread nD τ).loc cc0_scratch0 ↦{fullShare} f : As F)
      = ((c : Thread nD τ).loc cc0_scratch0 ↦[(slotRect 0).set ∪ (slotRect 1).set]{fullShare} f) by rw [slot_union]]
    rw [vi_slot, vi_slot]
    exact (pointsTo_union slot_disj).1) $$ H
  icases H with ⟨H0, H1⟩
  isplitl [H0]
  · iexists f; iexact H0
  · iexists f; iexact H1
theorem vi_join : iprop((∃ f, viPt c 0 f) ∗ ∃ f, viPt c 1 f)
    ⊢ (iprop(∃ f : Buf (Elt F) ((c : Thread nD τ).loc cc0_scratch0), (c : Thread nD τ).loc cc0_scratch0 ↦{fullShare} f) : As F) := by
  iintro ⟨⟨%f, H0⟩, %g, H1⟩
  ihave H := (show (iprop(viPt c 0 f ∗ viPt c 1 g) : As F)
      ⊢ ((c : Thread nD τ).loc cc0_scratch0 ↦[(slotRect 0).set ∪ (slotRect 1).set]{fullShare} ((slotRect 1).set.piecewise g f)) from by
    rw [vi_slot, vi_slot]
    exact pointsTo_join slot_disj) $$ [H0 H1]
  · isplitl [H0] <;> iassumption
  rw [slot_union]
  iexists _; iexact H
theorem vo_slot (s : Fin 2) (f : Slots F) : (voPt c s f : As F) = ((c : Thread nD τ).loc cc0_scratch1 ↦[(slotRect s).set]{fullShare} f) := by
  show ((c : Thread nD τ).loc cc0_scratch1 ↦[(voC s).view.set]{fullShare} f : As F) = _
  rw [vo_set]
theorem vo_cut : (iprop(∃ f : Buf (Elt F) ((c : Thread nD τ).loc cc0_scratch1), (c : Thread nD τ).loc cc0_scratch1 ↦{fullShare} f) : As F)
    ⊢ iprop((∃ f, voPt c 0 f) ∗ ∃ f, voPt c 1 f) := by
  iintro ⟨%f, H⟩
  ihave H := (show ((c : Thread nD τ).loc cc0_scratch1 ↦{fullShare} f : As F) ⊢ iprop(voPt c 0 f ∗ voPt c 1 f) from by
    rw [show ((c : Thread nD τ).loc cc0_scratch1 ↦{fullShare} f : As F)
      = ((c : Thread nD τ).loc cc0_scratch1 ↦[(slotRect 0).set ∪ (slotRect 1).set]{fullShare} f) by rw [slot_union]]
    rw [vo_slot, vo_slot]
    exact (pointsTo_union slot_disj).1) $$ H
  icases H with ⟨H0, H1⟩
  isplitl [H0]
  · iexists f; iexact H0
  · iexists f; iexact H1
theorem vo_join : iprop((∃ f, voPt c 0 f) ∗ ∃ f, voPt c 1 f)
    ⊢ (iprop(∃ f : Buf (Elt F) ((c : Thread nD τ).loc cc0_scratch1), (c : Thread nD τ).loc cc0_scratch1 ↦{fullShare} f) : As F) := by
  iintro ⟨⟨%f, H0⟩, %g, H1⟩
  ihave H := (show (iprop(voPt c 0 f ∗ voPt c 1 g) : As F)
      ⊢ ((c : Thread nD τ).loc cc0_scratch1 ↦[(slotRect 0).set ∪ (slotRect 1).set]{fullShare} ((slotRect 1).set.piecewise g f)) from by
    rw [vo_slot, vo_slot]
    exact pointsTo_join slot_disj) $$ [H0 H1]
  · isplitl [H0] <;> iassumption
  rw [slot_union]
  iexists _; iexact H

/-! ## The semaphores -/

/-- A semaphore of the device at zero. -/
abbrev zero (q : DmaSem sig) : As F := semVal ((c : Thread nD τ), .dma q) 0

def inQ : Finset (DmaSem sig) := {inS 0, inS 1}
def outQ : Finset (DmaSem sig) := {outS 0, outS 1}
def locQ : Finset (DmaSem sig) := legs.image fun l => locS l.1 l.2
def sndQ : Finset (DmaSem sig) := legs.image fun l => sndS l.1 l.2
def rcvQ : Finset (DmaSem sig) := legs.image fun l => rcvS l.1 l.2
/-- The semaphores of no leg. -/
def idleQ : Finset (DmaSem sig) := Finset.univ \ (inQ ∪ (outQ ∪ (locQ ∪ (sndQ ∪ rcvQ))))

theorem loc_val : ∀ (p : Fin 6) (k : Fin 8), (locS p k).val = 4 + (8 * p.val + k.val) := by decide +kernel
theorem snd_val : ∀ (p : Fin 6) (k : Fin 8), (sndS p k).val = 52 + (8 * p.val + k.val) := by decide +kernel
theorem rcv_val : ∀ (p : Fin 6) (k : Fin 8), (rcvS p k).val = 100 + (8 * p.val + k.val) := by decide +kernel

theorem leg_inj {l l' : Leg} (h : 8 * l.1.val + l.2.val = 8 * l'.1.val + l'.2.val) : l = l' := by
  have := l.2.isLt
  have := l'.2.isLt
  exact Prod.ext (Fin.ext (by omega)) (Fin.ext (by omega))

theorem bigSep_locQ (Φ : DmaSem sig → As F) : bigSep locQ Φ = bigSep legs fun l => Φ (locS l.1 l.2) :=
  bigSep_image_of_injOn (fun l _ l' _ h => leg_inj (by
    have h := congrArg Fin.val h
    have h1 := loc_val l.1 l.2
    have h2 := loc_val l'.1 l'.2
    simp only at h
    omega)) Φ
theorem bigSep_sndQ (Φ : DmaSem sig → As F) : bigSep sndQ Φ = bigSep legs fun l => Φ (sndS l.1 l.2) :=
  bigSep_image_of_injOn (fun l _ l' _ h => leg_inj (by
    have h := congrArg Fin.val h
    have h1 := snd_val l.1 l.2
    have h2 := snd_val l'.1 l'.2
    simp only at h
    omega)) Φ
theorem bigSep_rcvQ (Φ : DmaSem sig → As F) : bigSep rcvQ Φ = bigSep legs fun l => Φ (rcvS l.1 l.2) :=
  bigSep_image_of_injOn (fun l _ l' _ h => leg_inj (by
    have h := congrArg Fin.val h
    have h1 := rcv_val l.1 l.2
    have h2 := rcv_val l'.1 l'.2
    simp only at h
    omega)) Φ

theorem scoped_dma : (Finset.univ.filter fun sm : SemLoc sig => sm.isScoped .tc) = Finset.univ.image fun q : DmaSem sig => .dma q := by
  decide +kernel

/-- The device's semaphores at zero, by what they are for. -/
theorem sems_cut : (scopedSems0 (c : Thread nD τ) : As F)
    = iprop((zero c (inS 0) ∗ zero c (inS 1)) ∗ (zero c (outS 0) ∗ zero c (outS 1))
      ∗ (bigSep legs fun l => zero c (locS l.1 l.2)) ∗ (bigSep legs fun l => zero c (sndS l.1 l.2)) ∗ (bigSep legs fun l => zero c (rcvS l.1 l.2))
      ∗ bigSep idleQ (zero c)) := by
  have e : (scopedSems0 (c : Thread nD τ) : As F) = bigSep Finset.univ (zero c) := by
    rw [show (scopedSems0 (c : Thread nD τ) : As F) = _ from scopedSems0_tc c, scoped_dma]
    exact bigSep_image_of_injOn (fun q _ q' _ h => SemLoc.dma.inj h) _
  have s : (Finset.univ : Finset (DmaSem sig)) = inQ ∪ (outQ ∪ (locQ ∪ (sndQ ∪ (rcvQ ∪ idleQ)))) := by decide +kernel
  rw [e, s, bigSep_union (by decide +kernel), bigSep_union (by decide +kernel), bigSep_union (by decide +kernel), bigSep_union (by decide +kernel),
    bigSep_union (by decide +kernel), bigSep_locQ, bigSep_sndQ, bigSep_rcvQ]
  unfold inQ outQ
  rw [bigSep_insert (by decide), bigSep_singleton, bigSep_insert (by decide), bigSep_singleton]
  rfl

end Cert.Proof

end
-- ==== Proof.Deal.lean ====
/-
  What the launch deals: the legs' cells allocated under one map of names, their tokens and the receive buffers' chunks
  carried to the senders, the launch credit given to the receivers.
-/
module

public import proofs.«01_k».proof.Proof.Pieces

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)
variable (c : Dev nD)

/-! ## Conjunctions over the ends and over the senders -/

/-- A conjunction of weaker assertions is weaker. -/
theorem mono {I : Type} {S : Finset I} {Φ Ψ : I → As F} (h : ∀ i ∈ S, Φ i ⊢ Ψ i) : bigSep S Φ ⊢ bigSep S Ψ := BI.bigSep_mono h
/-- So is one over fewer. -/
theorem fewer {I : Type} [DecidableEq I] {S T : Finset I} {Φ : I → As F} (h : T ⊆ S) : bigSep S Φ ⊢ bigSep T Φ := BI.bigSep_subset h

theorem bigSep_used (Φ : Leg → As F) : (bigSep Finset.univ fun l : Leg => if used l.1 l.2 then Φ l else BI.emp) = bigSep legs Φ :=
  (bigSep_filter Finset.univ (fun l : Leg => used l.1 l.2) Φ).symm

/-- Over the ends is, device by device, over the legs' two ends. -/
theorem bigSep_ends (Φ : Dev nD × Bool × Leg → As F) :
    bigSep ends Φ = bigSep Finset.univ fun c => iprop((bigSep legs fun l => Φ (c, true, l)) ∗ bigSep legs fun l => Φ (c, false, l)) := by
  unfold ends
  rw [bigSep_filter, bigSep_univ_prod]
  refine bigSep_congr fun c _ => ?_
  rw [bigSep_univ_prod, show (Finset.univ : Finset Bool) = insert true {false} from by decide, bigSep_insert (by decide), bigSep_singleton]
  rw [bigSep_used fun l => Φ (c, true, l), bigSep_used fun l => Φ (c, false, l)]
  rfl

/-- The device at the other end of a phase, as an involution. -/
def over_nbr (p : Fin 6) : Dev nD ≃ Dev nD := ⟨nbr p, nbr p, nbr_nbr p, nbr_nbr p⟩

/-- What every device has for each landing is what every device has for each sending, carried over. -/
theorem carry (Φ : Dev nD → Leg → As F) :
    (bigSep Finset.univ fun c => bigSep legs (Φ c)) = bigSep Finset.univ fun c => bigSep legs fun l => Φ (nbr l.1 c) l := by
  have h (Ψ : Dev nD → Leg → As F) : (bigSep Finset.univ fun c => bigSep legs (Ψ c))
      = bigSep Finset.univ fun l : Leg => bigSep Finset.univ fun c => if used l.1 l.2 then Ψ c l else BI.emp := by
    rw [← bigSep_univ_comm]
    exact bigSep_congr fun c _ => (bigSep_used (Ψ c)).symm
  rw [h, h]
  exact bigSep_congr fun l _ => bigSep_univ_equiv (over_nbr l.1) _

/-! ## The cells -/

theorem legOf_end (e : Bool × Leg) : legOf (endCell c e).2 = some e := by
  obtain ⟨b, p, k⟩ := e
  cases b
  · exact legOf_snd p k
  · exact legOf_rcv p k
theorem dev_end (e : Bool × Leg) : (endCell c e).1.1 = c := by
  obtain ⟨b, p, k⟩ := e
  cases b <;> rfl
theorem end_inj {x y : Dev nD × Bool × Leg} (h : endCell x.1 x.2 = endCell y.1 y.2) : x = y :=
  Prod.ext (by rw [← dev_end x.1 x.2, h, dev_end]) (Option.some.inj (by rw [← legOf_end x.1 x.2, h, legOf_end]))

def cellSet : Finset (GSem nD τ sig) := ends.image fun x => endCell x.1 x.2
def tokSet : Finset (GSem nD τ sig × ℕ × Unit) := ends.image fun x => (endCell x.1 x.2, 0, ())

theorem bigSep_cellSet (Φ : GSem nD τ sig → As F) : bigSep cellSet Φ = bigSep ends fun x => Φ (endCell x.1 x.2) :=
  bigSep_image_of_injOn (fun _ _ _ _ h => end_inj h) Φ
theorem bigSep_tokSet (Φ : GSem nD τ sig × ℕ × Unit → As F) : bigSep tokSet Φ = bigSep ends fun x => Φ (endCell x.1 x.2, 0, ()) :=
  bigSep_image_of_injOn (fun _ _ _ _ h => end_inj (congrArg Prod.fst h)) Φ

/-- The launch element: the rounds of the legs' cells. -/
def u₀ : UU nD τ := (1, initOf cellSet tokSet, 1)

theorem fund : (ownU u₀ : As F) ⊢ iprop(|==> ((bigSep ends fun x => initState ER (endCell x.1 x.2)) ∗ (bigSep ends fun x => reached ER (endCell x.1 x.2) 0)
    ∗ (bigSep ends fun x => atPos ER (endCell x.1 x.2) 0 ∅ 0) ∗ bigSep ends fun x => dutyTok ER (endCell x.1 x.2) 0 ())) := by
  have h := fund_init (ER (F := F)) cellSet tokSet
  rw [bigSep_cellSet, bigSep_cellSet, bigSep_cellSet, bigSep_tokSet] at h
  exact h

/-- Every used cell's invariant, from its counter at zero, under one map of names. -/
theorem alloc {E : Set ℕ} : iprop((bigSep ends fun x => semVal (endCell x.1 x.2) 0) ∗ bigSep ends fun x => initState ER (endCell x.1 x.2))
    ⊢ (iprop(|={E}=> ∃ K : Dev nD × Bool × Leg → ℕ, bigSep ends fun x => cellInv ER (sched m) (K x) (endCell x.1 x.2)) : As F) := by
  rw [← bigSep_sep']
  refine ((mono fun x _ => ?_).trans (bigSep_fupd (E := E) ends fun x => iprop(∃ κ : ℕ, cellInv ER (sched m) κ (endCell x.1 x.2)))).trans
    (BI.fupd_mono (BI.bigSep_exists_pi ends fun x (κ : ℕ) => (cellInv ER (sched m) κ (endCell x.1 x.2) : As F)))
  exact (sep_mono_right (roundState_init ER (sched m))).trans ((body_intro ER (sched m) (endCell x.1 x.2)).trans inv_alloc)

/-! ## The launch credit -/

/-- A landing's cell is owed its credit by the sender alone. -/
theorem owed_leg (d : Dev nD) (l : Leg) (hl : l ∈ legs) : Owe d 0 (rcvCell c l.1 l.2) () = if d = nbr l.1 c then N else 0 := by
  unfold Owe
  rw [left_zero, Finset.sum_apply, Finsupp.finset_sum_apply]
  have key (l' : Leg) : (tallyAt (rcvCell (nbr l'.1 d) l'.1 l'.2) () N : CellTallies nD τ sig Unit) (rcvCell c l.1 l.2) ()
      = if l' = l then (if d = nbr l.1 c then N else 0) else 0 := by
    rw [tallyAt_apply]
    by_cases h : l' = l
    · subst h
      rw [if_pos rfl]
      by_cases hd : d = nbr l'.1 c
      · subst hd; rw [if_pos rfl, nbr_nbr, if_pos ⟨rfl, rfl⟩]
      · rw [if_neg hd, if_neg]
        rintro ⟨e, -⟩
        have e : c = nbr l'.1 d := congrArg (fun g : GSem nD τ sig => g.1.1) e
        exact hd (by rw [e, nbr_nbr])
    · rw [if_neg h, if_neg]
      rintro ⟨e, -⟩
      have e := congrArg (fun g : GSem nD τ sig => legOf g.2) e
      simp only [legOf_rcv] at e
      exact h (congrArg Prod.snd (Option.some.inj e)).symm
  rw [Finset.sum_congr rfl fun l' _ => key l', Finset.sum_ite_eq' legs l fun _ => _, if_pos hl]

theorem launch_leg (l : Leg) (hl : l ∈ legs) :
    tallyOn (rcvCell c l.1 l.2) (launchCredit (Pipeline.owing fun d => Owe d 0) 0 (rcvCell c l.1 l.2)) = (tallyAt (rcvCell c l.1 l.2) () N : CellTallies nD τ sig Unit) := by
  unfold tallyAt
  refine congrArg _ (Finsupp.ext fun u => ?_)
  cases u
  rw [Pipeline.launchCredit_owing, Finsupp.single_eq_same, Finset.sum_congr rfl fun d _ => owed_leg c d l hl,
    Finset.sum_ite_eq' Finset.univ (nbr l.1 c) fun _ => N, if_pos (Finset.mem_univ _)]

/-- A device's launch credit holds what its landings are waited for with. -/
theorem creds : (Pipeline.launchCred (fun d => Owe d 0) c : As F) ⊢ bigSep legs fun l => cred (tallyAt (rcvCell c l.1 l.2) () N) := by
  unfold Pipeline.launchCred
  refine (fewer (Finset.subset_univ (rcvQ.image fun q => SemLoc.dma q))).trans (Entails.of_eq ?_)
  rw [bigSep_image_of_injOn (fun q _ q' _ h => SemLoc.dma.inj h), bigSep_rcvQ]
  exact bigSep_congr fun l hl => by rw [launch_leg c l hl]

/-! ## All of it, device by device -/

theorem bigSep_pers {I : Type} [DecidableEq I] {S : Finset I} {R : As F} [BI.Persistent R] {Φ : I → As F} :
    iprop(R ∗ bigSep S Φ) ⊢ bigSep S fun i => iprop(R ∗ Φ i) := by
  rw [bigSep_sep']
  exact sep_mono_left (BI.bigSep_of_persistent S R)

theorem ticket_intro (l : Leg) : (iprop((∃ f, rPt (nbr l.1 c) (nbr l.1 c) (rg l.1) l.2 fullShare f) ∗ dutyTok ER (sndCell c l.1 l.2) 0 ()
    ∗ dutyTok ER (rcvCell (nbr l.1 c) l.1 l.2) 0 () ∗ atPos ER (sndCell c l.1 l.2) 0 ∅ 0) : As F) ⊢ ticket c l.1 l.2 := by
  unfold ticket fare
  iintro ⟨⟨%f, Hr⟩, Hs, Hd, Ha⟩
  isplitr [Ha]
  · isplitl [Hr]
    · iexists f; rw [rPt_nbr]; iexact Hr
    isplitl [Hs] <;> iassumption
  iexact Ha

/-- The launch's deal: from every device's legs' counters at zero, the launch element, the levels, the launch credits and
    the receive buffers, the records, and every device's tickets and landings. -/
theorem deal (R : Dev nD → Half F) :
    iprop((bigSep Finset.univ fun c => iprop((bigSep legs fun l => zero c (sndS l.1 l.2)) ∗ bigSep legs fun l => zero c (rcvS l.1 l.2)))
        ∗ ownU u₀ ∗ levAts L lv ∗ (bigSep Finset.univ fun c => Pipeline.launchCred (fun d => Owe d 0) c)
        ∗ bigSep Finset.univ fun c : Dev nD => ((c : Thread nD τ).loc main_v1_1 ↦{fullShare} R c))
      ⊢ (iprop(|={Set.univ}=> ∃ K, bigSep Finset.univ fun c => iprop(records m K ∗ (bigSep legs fun l => ticket c l.1 l.2) ∗ bigSep legs fun l => due c l.1 l.2)) : As F) := by
  have hz : (bigSep Finset.univ fun c => iprop((bigSep legs fun l => zero c (sndS l.1 l.2)) ∗ bigSep legs fun l => zero c (rcvS l.1 l.2)) : As F)
      ⊢ bigSep ends fun x => semVal (endCell x.1 x.2) 0 := by
    rw [bigSep_ends]
    refine mono fun c _ => ?_
    iintro ⟨H1, H2⟩
    isplitl [H2]; · iexact H2
    iexact H1
  have hr : (bigSep Finset.univ fun c : Dev nD => ((c : Thread nD τ).loc main_v1_1 ↦{fullShare} R c) : As F)
      ⊢ bigSep Finset.univ fun c => bigSep legs fun l => iprop(∃ f, rPt (nbr l.1 c) (nbr l.1 c) (rg l.1) l.2 fullShare f) := by
    rw [← carry fun c l => (iprop(∃ f, rPt c c (rg l.1) l.2 fullShare f) : As F)]
    refine mono fun c _ => ?_
    rw [r_cut]
    refine mono fun l _ => ?_
    iintro H
    iexists (R c); iexact H
  iintro ⟨Hz, Hu, #HL, Hc, Hr⟩
  ihave Hz := hz $$ Hz
  ihave Hr := hr $$ Hr
  imod fund $$ Hu with ⟨Hi, #Hre, Ha, Ht⟩
  imod (alloc m) $$ [Hz Hi] with ⟨%K, #HI⟩
  · isplitl [Hz] <;> iassumption
  imodintro
  iexists K
  iapply (bigSep_pers (R := records m K))
  isplitr
  · unfold records
    isplitr
    · rw [bigSep_sep']
      isplitl; · iexact HI
      iexact Hre
    iexact HL
  ihave Hc := (mono fun c _ => creds (F := F) c) $$ Hc
  ihave Ha := (show (bigSep ends fun x => atPos ER (endCell x.1 x.2) 0 ∅ 0 : As F)
      ⊢ bigSep Finset.univ fun c => iprop((bigSep legs fun l => atPos ER (rcvCell c l.1 l.2) 0 ∅ 0) ∗ bigSep legs fun l => atPos ER (sndCell c l.1 l.2) 0 ∅ 0)
    from Entails.of_eq (bigSep_ends fun x => atPos ER (endCell x.1 x.2) 0 ∅ 0)) $$ Ha
  ihave Ht := (show (bigSep ends fun x => dutyTok ER (endCell x.1 x.2) 0 () : As F)
      ⊢ bigSep Finset.univ fun c => iprop((bigSep legs fun l => dutyTok ER (rcvCell c l.1 l.2) 0 ()) ∗ bigSep legs fun l => dutyTok ER (sndCell c l.1 l.2) 0 ())
    from Entails.of_eq (bigSep_ends fun x => dutyTok ER (endCell x.1 x.2) 0 ())) $$ Ht
  ihave Ha := (Entails.of_eq (bigSep_sep' _ _ _)) $$ Ha
  icases Ha with ⟨Har, Has⟩
  ihave Ht := (Entails.of_eq (bigSep_sep' _ _ _)) $$ Ht
  icases Ht with ⟨Htr, Hts⟩
  ihave Htr := (Entails.of_eq (carry (F := F) fun c l => dutyTok ER (rcvCell c l.1 l.2) 0 ())) $$ Htr
  rw [bigSep_sep']
  isplitl [Hr Hts Htr Has]
  · iapply (mono (Φ := fun c => iprop((bigSep legs fun l => iprop(∃ f, rPt (nbr l.1 c) (nbr l.1 c) (rg l.1) l.2 fullShare f)) ∗ (bigSep legs fun l => dutyTok ER (sndCell c l.1 l.2) 0 ())
        ∗ (bigSep legs fun l => dutyTok ER (rcvCell (nbr l.1 c) l.1 l.2) 0 ()) ∗ bigSep legs fun l => atPos ER (sndCell c l.1 l.2) 0 ∅ 0)) fun c _ => by
      rw [← bigSep_sep', ← bigSep_sep', ← bigSep_sep']
      exact mono fun l _ => ticket_intro c l)
    rw [bigSep_sep', bigSep_sep', bigSep_sep']
    isplitl [Hr]; · iexact Hr
    isplitl [Hts]; · iexact Hts
    isplitl [Htr]; · iexact Htr
    iexact Has
  · iapply (mono (Φ := fun c => iprop((bigSep legs fun l => cred (tallyAt (rcvCell c l.1 l.2) () N)) ∗ bigSep legs fun l => atPos ER (rcvCell c l.1 l.2) 0 ∅ 0)) fun c _ => by
      rw [← bigSep_sep']
      exact mono fun l _ => by unfold due; exact .rfl)
    rw [bigSep_sep']
    isplitl [Hc]; · iexact Hc
    iexact Har

end Cert.Proof

end
-- ==== Proof.Ends.lean ====
/-
  The body's two ends, on one device: what it starts from, out of whole buffers and semaphores at zero, and the whole
  buffers and semaphores at zero it leaves.
-/
module

public import proofs.«01_k».proof.Proof.Deal

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)
variable (c : Dev nD)

/-! ## Before -/

/-- What the body starts from, what is owed apart. -/
def core0 : As F :=
  iprop((bigSep (Finset.Ico 0 32) fun j => xPt c (qOf j) (rOf j) fullShare.right (X m c))
    ∗ (bigSep (Finset.Ico 0 32) fun j => mAny c (qOf j) (rOf j))
    ∗ all (fun p r => ticket c p r) ∗ all (fun p r => box c p r)
    ∗ viFree c 0 ∗ viFree c 1 ∗ voFree c 0 ∗ voFree c 1)

theorem core0_start : iprop(core0 m c ∗ owesE c 0) ⊢ start m c := by
  unfold core0 start
  iintro ⟨⟨H1, H2, H3, H4, H5, H6, H7, H8⟩, HO⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HO

/-- What a device brings to the region: half a share of its operand, its result, its copies' semaphores at zero, and
    what the launch dealt it. -/
def held : As F :=
  iprop(((c : Thread nD τ).loc main_arg0 ↦{fullShare.right} X m c) ∗ ((c : Thread nD τ).loc main_v1_0 ↦{fullShare} m ((c : Thread nD τ).loc main_v1_0))
    ∗ (zero c (inS 0) ∗ zero c (inS 1)) ∗ (zero c (outS 0) ∗ zero c (outS 1)) ∗ (bigSep legs fun l => zero c (locS l.1 l.2))
    ∗ (bigSep legs fun l => ticket c l.1 l.2) ∗ bigSep legs fun l => due c l.1 l.2)

/-- A landing's pieces, from what the launch dealt, the result's other half and the semaphores. -/
theorem boxes (f : Full F) : (iprop((bigSep legs fun l => due c l.1 l.2) ∗ (bigSep legs fun l => tPt c (rg l.1) l.2 f)
      ∗ bigSep legs fun l => zero c (locS l.1 l.2)) : As F)
    ⊢ all (fun p r => box c p r) := by
  have h : (iprop((bigSep legs fun l => due c l.1 l.2) ∗ (bigSep legs fun l => tPt c (rg l.1) l.2 f)
        ∗ bigSep legs fun l => zero c (locS l.1 l.2)) : As F)
      = bigSep legs fun l => iprop(due c l.1 l.2 ∗ tPt c (rg l.1) l.2 f ∗ zero c (locS l.1 l.2)) := by
    rw [bigSep_sep', bigSep_sep']
  rw [h, ← bigSep_legs (fun l => box c l.1 l.2)]
  refine mono fun l _ => ?_
  unfold box tAny
  iintro ⟨H1, H2, H3⟩
  isplitl [H1]; · iexact H1
  isplitl [H2]; · iexists f; iexact H2
  iexact H3

/-- Into the region. -/
theorem enter : iprop(held m c ∗ Pipeline.scopedRest (cfg0.spec) c) ⊢ core0 m c := by
  unfold held core0
  rw [scopedRest0_eq, x_cut, o_cut, bigSep_legs (fun l => ticket c l.1 l.2)]
  iintro ⟨⟨Hx, ⟨Hm, Ht⟩, ⟨Hi0, Hi1⟩, ⟨Ho0, Ho1⟩, Hl, Hk, Hd⟩, Hv, Hw⟩
  ihave Hv := (vi_cut c) $$ Hv
  ihave Hw := (vo_cut c) $$ Hw
  icases Hv with ⟨Hv0, Hv1⟩
  icases Hw with ⟨Hw0, Hw1⟩
  isplitl [Hx]; · iexact Hx
  isplitl [Hm]
  · iapply (mono fun j _ => show mPt c (qOf j) (rOf j) (m ((c : Thread nD τ).loc main_v1_0)) ⊢ mAny c (qOf j) (rOf j) from by
      unfold mAny; iintro H; iexists _; iexact H)
    iexact Hm
  isplitl [Hk]; · iexact Hk
  isplitl [Hd Ht Hl]
  · iapply (boxes c (m ((c : Thread nD τ).loc main_v1_0)))
    isplitl [Hd]; · iexact Hd
    isplitl [Ht]; · iexact Ht
    iexact Hl
  unfold viFree voFree
  isplitl [Hv0 Hi0]; · isplitl [Hv0]; · iexact Hv0
                       iexact Hi0
  isplitl [Hv1 Hi1]; · isplitl [Hv1]; · iexact Hv1
                       iexact Hi1
  isplitl [Hw0 Ho0]; · isplitl [Hw0]; · iexact Hw0
                       iexact Ho0
  isplitl [Hw1]; · iexact Hw1
  iexact Ho1

/-! ## After -/

/-- What the body ends with, what is owed apart. -/
def core1 : As F :=
  iprop((bigSep (Finset.Ico 11 32) fun j => mPt c (qOf j) (rOf j) (Ov (X m) c))
    ∗ all (kept m c) ∗ all (back m c) ∗ viFree c 0 ∗ viFree c 1 ∗ voFree c 0 ∗ voFree c 1)

theorem finish_core1 : finish m c ⊢ iprop(core1 m c ∗ owesE c 32) := by
  unfold core1 finish
  iintro ⟨H1, H2, H3, H4, H5, H6, H7, HO⟩
  isplitr [HO]
  · isplitl [H1]; · iexact H1
    isplitl [H2]; · iexact H2
    isplitl [H3]; · iexact H3
    isplitl [H4]; · iexact H4
    isplitl [H5]; · iexact H5
    isplitl [H6]; · iexact H6
    iexact H7
  iexact HO

/-- The kept pieces are the result's other half and the semaphores of the landings and of the copies out of the receive
    buffer. -/
theorem keeps : all (kept m c) ⊢ (iprop((bigSep legs fun l => tPt c (rg l.1) l.2 (Ov (X m) c)) ∗ (bigSep legs fun l => zero c (locS l.1 l.2))
    ∗ bigSep legs fun l => zero c (rcvS l.1 l.2)) : As F) := by
  rw [← bigSep_legs (fun l => kept m c l.1 l.2)]
  refine (mono (Ψ := fun l => iprop(tPt c (rg l.1) l.2 (Ov (X m) c) ∗ zero c (locS l.1 l.2) ∗ zero c (rcvS l.1 l.2))) fun l _ => ?_).trans ?_
  · unfold kept
    iintro ⟨H1, H2, H3⟩
    isplitl [H1]; · iexact H1
    isplitl [H2]; · iexact H2
    iexact H3
  · rw [bigSep_sep', bigSep_sep']

theorem own0 (p : Fin 6) (q : Fin 4) (hp : p.val < 2) (hq : sg p = q) (j : ℕ) : sndPay m c (p, rOf j) ⊢ mPt c q (rOf j) (Ov (X m) c) := by
  subst hq
  unfold sndPay
  rw [if_pos hp]

/-- The returned pieces are the chunks sent out of the result and the semaphores of the read-outs. -/
theorem backs : all (back m c) ⊢ (iprop((bigSep (Finset.Ico 0 11) fun j => mPt c (qOf j) (rOf j) (Ov (X m) c))
    ∗ bigSep legs fun l => zero c (sndS l.1 l.2)) : As F) := by
  rw [← bigSep_legs (fun l => back m c l.1 l.2)]
  have h : (bigSep legs fun l => back m c l.1 l.2) ⊢ (iprop((bigSep legs fun l => sndPay m c l) ∗ bigSep legs fun l => zero c (sndS l.1 l.2)) : As F) := by
    rw [← bigSep_sep']
    exact mono fun l _ => by
      unfold back
      iintro ⟨H1, H2⟩
      isplitl [H1]; · iexact H1
      iexact H2
  have h8 : ∀ j ∈ Finset.Ico 0 8, qOf j = 0 := by decide +kernel
  have h11 : ∀ j ∈ Finset.Ico 8 11, qOf j = 1 := by decide +kernel
  iintro H
  ihave H := h $$ H
  icases H with ⟨H, Hz⟩
  isplitr [Hz]
  · ihave H := (Entails.of_eq (bigSep_legs (fun l => sndPay m c l))) $$ H
    unfold all
    icases H with ⟨H0, H1, -⟩
    rw [ico_join (a := 0) (b := 8) (d := 11) (by decide) (by decide)]
    isplitl [H0]
    · unfold over
      iapply (mono fun j hj => show sndPay m c (0, rOf j) ⊢ mPt c (qOf j) (rOf j) (Ov (X m) c) from own0 m c 0 _ (by decide) (by rw [h8 j hj]; rfl) j)
      iexact H0
    · ihave H1 := (Entails.of_eq (ico_quarter 1 (fun p r => sndPay m c (p, r))).symm) $$ H1
      iapply (mono fun j hj => show sndPay m c (1, rOf j) ⊢ mPt c (qOf j) (rOf j) (Ov (X m) c) from own0 m c 1 _ (by decide) (by rw [h11 j hj]; rfl) j)
      iexact H1
  iexact Hz

/-- Out of the region. -/
theorem leave : iprop(core1 m c ∗ bigSep idleQ (zero c))
    ⊢ (iprop(((c : Thread nD τ).loc main_v1_0 ↦{fullShare} Ov (X m) c) ∗ scopedSems0 (c : Thread nD τ) ∗ Pipeline.scopedRest (cfg0.spec) c) : As F) := by
  unfold core1
  rw [scopedRest0_eq, o_cut, sems_cut, ico_join (a := 0) (b := 11) (d := 32) (by decide) (by decide)]
  unfold viFree voFree
  iintro ⟨⟨Hm, Hk, Hb, ⟨Hv0, Hi0⟩, ⟨Hv1, Hi1⟩, ⟨Hw0, Ho0⟩, Hw1, Ho1⟩, Hidle⟩
  ihave Hk := (keeps m c) $$ Hk
  icases Hk with ⟨Ht, Hl, Hr⟩
  ihave Hb := (backs m c) $$ Hb
  icases Hb with ⟨Hm0, Hs⟩
  isplitl [Hm Ht Hm0]
  · isplitr [Ht]
    · isplitl [Hm0]; · iexact Hm0
      iexact Hm
    iexact Ht
  isplitl [Hi0 Hi1 Ho0 Ho1 Hl Hs Hr Hidle]
  · isplitl [Hi0 Hi1]; · isplitl [Hi0]; · iexact Hi0
                         iexact Hi1
    isplitl [Ho0 Ho1]; · isplitl [Ho0]; · iexact Ho0
                         iexact Ho1
    isplitl [Hl]; · iexact Hl
    isplitl [Hs]; · iexact Hs
    isplitl [Hr]; · iexact Hr
    iexact Hidle
  isplitl [Hv0 Hv1]
  · iapply (vi_join c)
    isplitl [Hv0]; · iexact Hv0
    iexact Hv1
  · iapply (vo_join c)
    isplitl [Hw0]; · iexact Hw0
    iexact Hw1

end Cert.Proof

end
-- ==== Proof.Region.lean ====
/-
  The region on one device: its proof data (no window, one point), the body's obligation, and the run of @main there.
-/
module

public import proofs.«01_k».proof.Proof.Ends
public import proofs.«01_k».proof.Proof.Gen.KernelIdeal.Frame

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : Dev nD × Bool × Leg → ℕ)
variable (c : Dev nD)

/-- The region's one step: from what the body starts from to what it ends with, everything owed being paid. -/
def dats (_ : Fin 1) (c : Dev nD) : Dat τ (Elt F) Unit ℕ (UU nD τ) ℕ cfg0 c where
  A w := w.elim0
  after w := w.elim0
  Φ t := if t.val = 0 then iprop(records m K ∗ core0 m c) else core1 m c
  q w := w.elim0
  owed t := if t.val = 0 then Owe c 0 else Owe c 32

theorem phi_first (t : Fin (cfg0.N + 1)) (h : t.val = 0) : (dats m K 0 c).Φ t = iprop(records m K ∗ core0 m c) := if_pos h
theorem phi_last (t : Fin (cfg0.N + 1)) (h : t.val ≠ 0) : (dats m K 0 c).Φ t = core1 m c := if_neg h
theorem owed_first (t : Fin (cfg0.N + 1)) (h : t.val = 0) : (dats m K 0 c).owed t = Owe c 0 := if_pos h
theorem owed_last (t : Fin (cfg0.N + 1)) (h : t.val ≠ 0) : (dats m K 0 c).owed t = Owe c 32 := if_neg h

theorem last_ne : (Fin.last cfg0.N).val ≠ 0 := by
  show grid0.N ≠ 0
  rw [N_0]; exact Nat.one_ne_zero

/-- What the region holds of what is owed, and what the body does. -/
theorem owesAt_first (t : Fin (cfg0.N + 1)) (h : t.val = 0) : (dats m K 0 c).owesAt () t ⊢ owesE c 0 := by
  unfold Dat.owesAt Pipeline.owesWithin owesE
  rw [owed_first m K c t h]
  iintro ⟨%W, -, H⟩
  iexists W; iexact H
theorem owesAt_last (t : Fin (cfg0.N + 1)) (h : t.val ≠ 0) : owesE c 32 ⊢ (dats m K 0 c).owesAt () t := by
  unfold Dat.owesAt Pipeline.owesWithin owesE
  rw [owed_last m K c t h]
  iintro ⟨%W, H⟩
  iexists W
  isplitr
  · ipureintro; exact fun _ _ => Or.inl trivial
  iexact H
theorem owesAt_paid (t : Fin (cfg0.N + 1)) (h : t.val ≠ 0) : (dats m K 0 c).owesAt () t ⊢ (iprop(∃ W, owes (c : Thread nD τ) 0 W) : As F) := by
  unfold Dat.owesAt Pipeline.owesWithin
  rw [owed_last m K c t h, Owe_end]
  iintro ⟨%W, -, H⟩
  iexists W; iexact H

theorem wp_body (Q : As F) (h : iprop(core1 m c ∗ owesE c 32) ⊢ Q) :
    iprop(records m K ∗ core0 m c ∗ owesE c 0) ⊢ run c (bodyAt0 (F := F) t0_0) (fun _ => Q) := by
  rw [body_eq]
  have h1 : run c (prog (F := F)) (fun _ => finish m c) ⊢ run c (prog (F := F)) (fun _ => Q) :=
    wp_mono _ _ _ fun _ => (finish_core1 m c).trans h
  iintro ⟨#HR, H, HO⟩
  iapply h1
  iapply (wp_prog m K c)
  isplitr; · iexact HR
  iapply (core0_start m c)
  isplitl [H]; · iexact H
  iexact HO

/-- The body, from the region's first state to its last. -/
theorem body_obligation : Pipeline.BodyObligationLoose (dats m K 0 c) (defs₀ (F := F)) 𝒱₀ () Set.univ := fun t => by
  rw [fin_N0 t, phi_first m K c t0_0.castSucc rfl, phi_last m K c t0_0.succ (Nat.succ_ne_zero _)]
  iintro ⟨⟨#HR, H⟩, HO, -⟩
  ihave HO := (owesAt_first m K c t0_0.castSucc rfl) $$ HO
  iapply (wp_body m K c _ ?_) $$ [H HO]
  rotate_left
  · isplitr; · iexact HR
    isplitl [H]; · iexact H
    iexact HO
  iintro ⟨H, HO⟩
  isplitl [H]; · iexact H
  isplitl [HO]
  · iapply (owesAt_last m K c t0_0.succ (Nat.succ_ne_zero _)); iexact HO
  · rw [show (Finset.univ : Finset (Fin cfg0.W)) = ∅ from rfl, bigSep_empty]
    iempintro

/-! ## @main on one device -/

/-- What a device has before @main. -/
def before : As F :=
  iprop(records m K ∗ scopedBufs (c : Thread nD τ) ∗ owes (c : Thread nD τ) (Owe c 0) ∅
    ∗ ((c : Thread nD τ).loc main_arg0 ↦{fullShare.left} X m c) ∗ held m c ∗ bigSep idleQ (zero c))
/-- What it has after: its operand and its result to be read, its semaphores at zero. -/
def after : As F :=
  iprop(((c : Thread nD τ).loc main_arg0 ↦{fullShare.left} X m c) ∗ ((c : Thread nD τ).loc main_v1_0 ↦{fullShare} Ov (X m) c)
    ∗ scopedSems0 (c : Thread nD τ))

/-- The region's entry asks for what is owed only, there being no window. -/
theorem entry_pre : (owes (c : Thread nD τ) (Owe c 0) ∅ : As F)
    ⊢ Pipeline.EntryPre (Pipeline.pin (pcfgs (F := F)) fun p => (cfgs p).toPCfg_adm) (dats m K) () EP (fun _ => 0) (0 : Fin 1) c := by
  have e : (Finset.univ : Finset (Fin cfg0.W)) = ∅ := rfl
  have n (Φ : Fin cfg0.W → As F) : (BI.emp : As F) ⊢ bigSep Finset.univ Φ := Entails.of_eq (by rw [e, bigSep_empty])
  unfold Pipeline.EntryPre Pipeline.PerCore.EntryPre Dat.arrays Pipeline.PerCore.cellsWaits Pipeline.PerCore.cellsInit Pipeline.PerCore.toksInit
    Pipeline.PerCore.RDat.cellsWaits Pipeline.PerCore.RDat.cellsInit
  iintro HO
  isplitr
  · iapply (n _); iempintro
  isplitl [HO]
  · iapply (show (owes (c : Thread nD τ) (Owe c 0) ∅ : As F) ⊢ (dats m K 0 c).owesAt () 0 from by
      unfold Dat.owesAt Pipeline.owesWithin
      rw [owed_first m K c 0 rfl]
      iintro H
      iexists ∅
      isplitr
      · ipureintro; rw [Finset.coe_empty]; exact Set.empty_subset _
      iexact H)
    iexact HO
  isplitr
  · iapply (n _); iempintro
  isplitr
  · iapply (n _); iempintro
  iapply (n _); iempintro

theorem entry_post : Pipeline.EntryPost (Pipeline.pin (pcfgs (F := F)) fun p => (cfgs p).toPCfg_adm) (dats m K) () (0 : Fin 1) c
    ⊢ (iprop(∃ W, owes (c : Thread nD τ) 0 W) : As F) := by
  unfold Pipeline.EntryPost Pipeline.PerCore.EntryPost
  iintro ⟨-, HO⟩
  iapply (owesAt_paid m K c (Fin.last cfg0.N) last_ne)
  iexact HO

theorem bufs_cut : (scopedBufs (c : Thread nD τ) : As F) = iprop(Dat.staging cfg0 c ∗ Pipeline.scopedRest (cfg0.spec) c) :=
  Pipeline.scopedBufs_split cfgs (0 : Fin 1) winFacts0.stage_scoped winFacts0.stage_inj stage_whole0 c

theorem region_in : iprop(iprop(records m K ∗ held m c) ∗ Pipeline.prefHeld (pcfgs (F := F) 0).pre c (fun _ => fullShare.right) ((cfgs 0).toPCfg_adm (Val := Elt F)).1
    ∗ Pipeline.scopedRest (cfg0.spec) c) ⊢ (dats m K 0 c).Φ 0 := by
  rw [phi_first m K c 0 rfl]
  iintro ⟨⟨#HR, H⟩, -, Hb⟩
  isplitr; · iexact HR
  iapply (enter m c)
  isplitl [H]; · iexact H
  iexact Hb

theorem region_out : iprop((dats m K 0 c).Φ (Fin.last cfg0.N) ∗ Pipeline.cellsSems0 (Pipeline.pin (pcfgs (F := F)) fun p => (cfgs p).toPCfg_adm) (0 : Fin 1) c
      ∗ Dat.staging cfg0 c ∗ bigSep idleQ (zero c))
    ⊢ iprop(((c : Thread nD τ).loc main_v1_0 ↦{fullShare} Ov (X m) c) ∗ scopedSems0 (c : Thread nD τ) ∗ scopedBufs (c : Thread nD τ)) := by
  rw [bufs_cut, phi_last m K c (Fin.last cfg0.N) last_ne]
  iintro ⟨HΦ, -, Hst, Hidle⟩
  ihave H := (leave m c) $$ [HΦ Hidle]
  · isplitl [HΦ]; · iexact HΦ
    iexact Hidle
  icases H with ⟨H1, H2, H3⟩
  isplitl [H1]; · iexact H1
  isplitl [H2]; · iexact H2
  isplitl [Hst]; · iexact Hst
  iexact H3

/-- The region on one device, then the return. -/
theorem wp_region (Q : PUnit → As F) :
    iprop(Pipeline.EntryPre (Pipeline.pin (pcfgs (F := F)) fun p => (cfgs p).toPCfg_adm) (dats m K) () EP (fun _ => 0) (0 : Fin 1) c
        ∗ Pipeline.prefHeld (pcfgs (F := F) 0).pre c (fun _ => fullShare.right) ((cfgs 0).toPCfg_adm (Val := Elt F)).1
        ∗ iprop(records m K ∗ held m c) ∗ bigSep idleQ (zero c) ∗ scopedBufs (c : Thread nD τ))
      ⊢ iprop(((Pipeline.EntryPost (Pipeline.pin (pcfgs (F := F)) fun p => (cfgs p).toPCfg_adm) (dats m K) () (0 : Fin 1) c
          ∗ ((c : Thread nD τ).loc main_v1_0 ↦{fullShare} Ov (X m) c) ∗ scopedSems0 (c : Thread nD τ) ∗ scopedBufs (c : Thread nD τ))
          -∗ wp frame (wpE (Pipeline.defs pcfgs (defs₀ (F := F))) (Variants.lift 𝒱₀) (c : Thread nD τ) none) Set.univ (.ret ⟨⟩) Q)
        -∗ wp frame (wpE (Pipeline.defs pcfgs (defs₀ (F := F))) (Variants.lift 𝒱₀) (c : Thread nD τ) none) Set.univ (.op (.customCall (Pipeline.entry 0) ()) fun _ => .ret ⟨⟩) Q) := by
  refine Pipeline.wp_customCall_entry_frame (pcfgs (F := F)) (fun p => (cfgs p).toPCfg_adm) (dats m K) () EP (fun _ => 0) cellOf_inj (0 : Fin 1) defs₀ 𝒱₀
    (fun _ => fullShare.right) c Set.univ ?_ ?_ ?_ none ?_
    (R := Pipeline.scopedRest (cfg0.spec) c) ?_ ?_ ?_ (α := PUnit) (k := fun _ => .ret PUnit.unit)
  · exact (fun _ _ => Set.mem_univ _)
  · exact (body_obligation m K c)
  · exact block_pos0
  · exact (fun u h => nomatch h)
  · exact (Entails.of_eq (bufs_cut c))
  · exact (region_in m K c)
  · exact (region_out m K c)

/-- @main on one device. -/
theorem wp_core : before m K c ⊢ wp frame (wpE (defs (F := F)) (Variants.lift 𝒱₀) (c : Thread nD τ) none) Set.univ (main c)
    (fun _ => post (liftTc (after m) BI.emp) (c : Thread nD τ)) := by
  rw [show main (F := F) c = .op (.customCall (Pipeline.entry 0) ()) fun _ => .ret ⟨⟩ from (main_chain c).trans rfl]
  unfold before defs
  iintro ⟨#HR, Hb, HO, Hx, Hh, Hidle⟩
  iapply (wp_region m K c (fun _ => post (liftTc (after m) BI.emp) (c : Thread nD τ))) $$ [Hb HO Hh Hidle]
  · isplitl [HO]
    · iapply (entry_pre m K c); iexact HO
    isplitr
    · iempintro
    isplitl [Hh]
    · isplitr; · iexact HR
      iexact Hh
    isplitl [Hidle]; · iexact Hidle
    iexact Hb
  iintro ⟨HO, Ho, Hs, -⟩
  rw [wp_ret]; imodintro
  unfold post
  rw [liftTc_tc]
  unfold after
  isplitr [HO]
  · isplitl [Hx]; · iexact Hx
    isplitl [Ho]; · iexact Ho
    iexact Hs
  iapply (entry_post m K c); iexact HO

end Cert.Proof

end
-- ==== Proof.Launch.lean ====
/-
  The run of @main: the launch deals every device what it starts from, every device runs the region, and the final
  memory is read off what the devices end with.
-/
module

public import proofs.«01_k».proof.Proof.Region
public import Idealize.ShloMosaic.Lib.Quiescent
public import Idealize.ShloMosaic.Harness.Basic
public import Idealize.ShloMosaic.Adequacy

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)
variable (c : Dev nD)

/-! ## The launch -/

/-- What a device keeps of its launch holdings, -/
def own : As F :=
  iprop(scopedBufs (c : Thread nD τ) ∗ owes (c : Thread nD τ) (Owe c 0) ∅ ∗ ((c : Thread nD τ).loc main_arg0 ↦{fullShare.left} X m c)
    ∗ ((c : Thread nD τ).loc main_arg0 ↦{fullShare.right} X m c) ∗ ((c : Thread nD τ).loc main_v1_0 ↦{fullShare} m ((c : Thread nD τ).loc main_v1_0))
    ∗ (zero c (inS 0) ∗ zero c (inS 1)) ∗ (zero c (outS 0) ∗ zero c (outS 1)) ∗ (bigSep legs fun l => zero c (locS l.1 l.2)) ∗ bigSep idleQ (zero c))

/-- and what it puts together with the others'. -/
def pool : As F :=
  iprop(((bigSep legs fun l => zero c (sndS l.1 l.2)) ∗ bigSep legs fun l => zero c (rcvS l.1 l.2))
    ∗ (bigSep Finset.univ fun sm : SemLoc sig => levels ((c : Thread nD τ), sm) ∅) ∗ Pipeline.launchCred (fun d => Owe d 0) c
    ∗ ((c : Thread nD τ).loc main_v1_1 ↦{fullShare} m ((c : Thread nD τ).loc main_v1_1)))

/-- The arrays of @main. -/
theorem arrays_cut : (unscopedBufs c (fun b => m ((c : Thread nD τ).loc b)) : As F)
    ⊢ iprop(((c : Thread nD τ).loc main_arg0 ↦{fullShare} X m c) ∗ ((c : Thread nD τ).loc main_v1_0 ↦{fullShare} m ((c : Thread nD τ).loc main_v1_0))
      ∗ ((c : Thread nD τ).loc main_v1_1 ↦{fullShare} m ((c : Thread nD τ).loc main_v1_1))) := by
  rw [Pipeline.unscopedBufs_split cfgs (0 : Fin 1) winFacts0.arr_unscoped winFacts0.arr_inj c]
  iintro ⟨-, H⟩
  ihave H := (Entails.of_eq (unscopedRest0_eq c fun b => m ((c : Thread nD τ).loc b))) $$ H
  iexact H

/-- A device's launch holdings. -/
theorem core_split : (coreInit (Pipeline.owing fun d => Owe d 0) 0 (⟨m, fun _ => 0, ρ⟩ : MemSt nD τ sig (Elt F)) (c : Thread nD τ) : As F)
    ⊢ iprop(own m c ∗ pool m c) := by
  refine (Pipeline.coreInit_boundary_owing (fun d => Owe d 0) m ρ c).trans ?_
  unfold boundary own pool
  rw [sems_cut]
  iintro ⟨⟨Hb, ⟨Hi, Ho, Hl, Hs, Hr, Hidle⟩, -⟩, Hu, -, HO, Hlv, -, Hcr⟩
  ihave Hu := (arrays_cut m c) $$ Hu
  icases Hu with ⟨Hx, Hres, Hrb⟩
  ihave Hx := (pointsTo_share (PosShare.mem_left_op_right fullShare)).1 $$ Hx
  icases Hx with ⟨Hx1, Hx2⟩
  isplitl [Hb HO Hx1 Hx2 Hres Hi Ho Hl Hidle]
  · isplitl [Hb]; · iexact Hb
    isplitl [HO]; · iexact HO
    isplitl [Hx1]; · iexact Hx1
    isplitl [Hx2]; · iexact Hx2
    isplitl [Hres]; · iexact Hres
    isplitl [Hi]; · iexact Hi
    isplitl [Ho]; · iexact Ho
    isplitl [Hl]; · iexact Hl
    iexact Hidle
  isplitl [Hs Hr]
  · isplitl [Hs]; · iexact Hs
    iexact Hr
  isplitl [Hlv]
  · ihave Hlv := (show (levels0 c : As F) ⊢ bigSep Finset.univ fun sm : SemLoc sig => levels ((c : Thread nD τ), sm) ∅ from Entails.refl _) $$ Hlv
    iexact Hlv
  isplitl [Hcr]; · iexact Hcr
  iexact Hrb

/-- The levels, given to every device's cells at once. -/
theorem give_levels : (bigSep Finset.univ fun c : Dev nD => bigSep Finset.univ fun sm : SemLoc sig => levels ((c : Thread nD τ), sm) ∅ : As F)
    ⊢ iprop(|==> levAts L lv) := by
  refine (Smoke.lev_assign_devs (fun _ => {()}) lv).trans (BI.bupd_mono (show iprop(_ ∗ levAts L lv) ⊢ (levAts L lv : As F) from by
    iintro ⟨-, H⟩
    iexact H))

/-- What a device keeps and what it is dealt is what it starts @main with. -/
theorem own_dealt (K : Dev nD × Bool × Leg → ℕ) : iprop(own m c ∗ records m K ∗ (bigSep legs fun l => ticket c l.1 l.2) ∗ bigSep legs fun l => due c l.1 l.2)
    ⊢ before m K c := by
  unfold own before held
  iintro ⟨⟨Hb, HO, Hx1, Hx2, Hres, Hi, Ho, Hl, Hidle⟩, #HR, Ht, Hd⟩
  isplitr; · iexact HR
  isplitl [Hb]; · iexact Hb
  isplitl [HO]; · iexact HO
  isplitl [Hx1]; · iexact Hx1
  isplitr [Hidle]
  · isplitl [Hx2]; · iexact Hx2
    isplitl [Hres]; · iexact Hres
    isplitl [Hi]; · iexact Hi
    isplitl [Ho]; · iexact Ho
    isplitl [Hl]; · iexact Hl
    isplitl [Ht]; · iexact Ht
    iexact Hd
  iexact Hidle

/-- The launch. -/
theorem launch : iprop(bigSep Finset.univ (fun d : Dev nD => coreInit (Pipeline.owing fun d => Owe d 0) 0 (⟨m, fun _ => 0, ρ⟩ : MemSt nD τ sig (Elt F)) (d : Thread nD τ)) ∗ ownU u₀)
    ⊢ (iprop(|={Set.univ}=> ∃ K, bigSep Finset.univ (before m K) ∗ BI.emp) : As F) := by
  have h : (bigSep Finset.univ (fun d : Dev nD => coreInit (Pipeline.owing fun d => Owe d 0) 0 (⟨m, fun _ => 0, ρ⟩ : MemSt nD τ sig (Elt F)) (d : Thread nD τ)) : As F)
      ⊢ iprop(bigSep Finset.univ (own m) ∗ (bigSep Finset.univ fun c => iprop((bigSep legs fun l => zero c (sndS l.1 l.2)) ∗ bigSep legs fun l => zero c (rcvS l.1 l.2)))
        ∗ (bigSep Finset.univ fun c : Dev nD => bigSep Finset.univ fun sm : SemLoc sig => levels ((c : Thread nD τ), sm) ∅)
        ∗ (bigSep Finset.univ fun c => Pipeline.launchCred (fun d => Owe d 0) c)
        ∗ bigSep Finset.univ fun c : Dev nD => ((c : Thread nD τ).loc main_v1_1 ↦{fullShare} m ((c : Thread nD τ).loc main_v1_1))) := by
    refine (mono fun c _ => core_split m ρ c).trans (Entails.of_eq ?_)
    unfold pool
    rw [bigSep_sep', bigSep_sep', bigSep_sep', bigSep_sep', bigSep_sep']
  iintro ⟨H, Hu⟩
  ihave H := h $$ H
  icases H with ⟨Hown, Hz, Hlv, Hcr, Hrb⟩
  imod (give_levels (F := F)) $$ Hlv with Hla
  imod (deal m fun c => m ((c : Thread nD τ).loc main_v1_1)) $$ [Hz Hu Hla Hcr Hrb] with ⟨%K, HK⟩
  · isplitl [Hz]; · iexact Hz
    isplitl [Hu]; · iexact Hu
    isplitl [Hla]; · iexact Hla
    isplitl [Hcr]; · iexact Hcr
    iexact Hrb
  imodintro
  iexists K
  isplitr []
  · iapply (mono fun c _ => own_dealt m c K)
    iapply (Entails.of_eq (bigSep_sep' Finset.univ (own m) fun c => iprop(records m K ∗ (bigSep legs fun l => ticket c l.1 l.2) ∗ bigSep legs fun l => due c l.1 l.2)).symm)
    isplitl [Hown]; · iexact Hown
    iexact HK
  · iempintro

/-! ## The read -/

/-- What is read of a device at the end. -/
theorem read_core (s' : Phys nD τ sig (Elt F)) : iprop(after m c ∗ SI s')
    ⊢ (iprop(|={Set.univ}=> (⌜(s'.mem.mem ((c : Thread nD τ).loc main_v1_0) = Ov (X m) c ∧ s'.mem.mem ((c : Thread nD τ).loc main_arg0) = X m c)
        ∧ ∀ sm : SemLoc sig, sm.isScoped .tc = true → s'.mem.sem ((c : Thread nD τ), sm) = 0⌝ ∗ SI s')) : As F) := by
  unfold after
  iintro ⟨⟨Hx, Ho, Hs⟩, HSI⟩
  ihave %hz := (tcScoped_read_pers c s') $$ [Hs HSI]
  · isplitl [Hs] <;> iassumption
  ihave H := (pointsTo_read_all (Finset.univ : Finset Unit) (fun _ => (c : Thread nD τ).loc main_v1_0) (fun _ => Ov (X m) c) s') $$ [Ho HSI]
  · isplitl [Ho]
    · rw [show (Finset.univ : Finset Unit) = {()} from rfl, bigSep_singleton]; iexact Ho
    iexact HSI
  icases H with ⟨%ho, HSI⟩
  ihave H := (pointsTo_read_all (Finset.univ : Finset Unit) (fun _ => (c : Thread nD τ).loc main_arg0) (fun _ => X m c) s' fullShare.left) $$ [Hx HSI]
  · isplitl [Hx]
    · rw [show (Finset.univ : Finset Unit) = {()} from rfl, bigSep_singleton]; iexact Hx
    iexact HSI
  icases H with ⟨%hx, HSI⟩
  imodintro
  isplitr
  · ipureintro; exact ⟨⟨ho () (Finset.mem_univ _), hx () (Finset.mem_univ _)⟩, hz⟩
  iexact HSI

/-- Every run of @main ends with every device's result at the operands' halves side by side, its operand as it was, and
    every semaphore at zero. -/
theorem run_main : θ_run defs (onTc (τ := τ) (main (F := F))) ⟨m, fun _ => 0, ρ⟩ fun r =>
    (∀ c : Dev nD, r.2.mem ((c : Thread nD τ).loc main_v1_0) = Ov (X m) c ∧ r.2.mem ((c : Thread nD τ).loc main_arg0) = X m c) ∧ r.2.sem = fun _ => 0 := by
  refine (θ_run defs _ _).mono (Q := fun r => (∀ c : Dev nD, (r.2.mem ((c : Thread nD τ).loc main_v1_0) = Ov (X m) c ∧ r.2.mem ((c : Thread nD τ).loc main_arg0) = X m c)
      ∧ ∀ sm : SemLoc sig, sm.isScoped .tc = true → r.2.sem ((c : Thread nD τ), sm) = 0) ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu defs _ _ _ (reflect_intro_fupd_tc_sems (Variants.lift 𝒱₀) (Pipeline.owing fun d => Owe d 0) 0 (noBookings fun _ => le_rfl)
      (Pipeline.owing_of_ne _) u₀ (fun K => before m K) (fun _ => after m) (fun _ => BI.emp) Set.univ (launch m ρ) (fun K c => wp_core m K c) fun _ => ?_))
  iintro ⟨H, -, Hsc⟩ %s' HSI
  ihave %hsc := (scSems_read_zero m ρ s') $$ [Hsc HSI]
  · isplitl [Hsc] <;> iassumption
  imod (posts_fupd Finset.univ (read_core m) s') $$ [H HSI] with %h
  · isplitl [H] <;> iassumption
  imodintro
  ipureintro
  exact ⟨fun c => h c (Finset.mem_univ c), hsc⟩

end Cert.Proof

end
-- ==== Proof.Claims.lean ====
/-
  What the run means: over devices that hold their halves of one array, every device's result is that array. The
  reference, whose result is its argument, leaves the same array; and the certificate's claims follow.
-/
module

public import proofs.«01_k».proof.Defs
public import proofs.«01_k».proof.Proof.Launch
public import Idealize.ShloMosaic.Lib.StableHlo.Run
public import proofs.«01_k».proof.Proof.Gen.Kernel
public import proofs.«01_k».proof.Proof.Gen.Reference
public import proofs.«01_k».proof.Proof.Gen.ReferenceIdeal

@[expose] public section

noncomputable section

namespace Cert.Proof

open Idealize.ShloMosaic Idealize.ShloMosaic.TcCoe Idealize.SL.Sem

variable {F : FTy → Type} [FloatOps F]

/-! ## The value -/

section Value
open Cert.KernelIdeal

/-- The half of the whole array that a device holds: the one its coordinate on the mesh's first axis names. -/
abbrev halfOf (w : Full F) (c : Dev nD) : Half F :=
  Layout.blockN ⟨2, ![32768, 1024]⟩ ⟨2, ![65536, 1024]⟩ (Layout.meshBlock [2, 2, 2] ![[0], []] c) w

theorem mesh_row : ∀ c : Dev nD, ((Layout.meshBlock [2, 2, 2] (![[0], []] : Fin 2 → List Nat) c) 0).val = c.val / 4 := by
  decide +kernel
theorem mesh_lane : ∀ c : Dev nD, ((Layout.meshBlock [2, 2, 2] (![[0], []] : Fin 2 → List Nat) c) 1).val = 0 := by
  decide +kernel

/-- A row of the result read in the half it is in, on a device that holds that half, is the row of the whole array. -/
theorem halfOf_toHalf (w : Full F) (c : Dev nD) (i : S65536x1024.Idx) (h : (i 0).val / 32768 = c.val / 4) :
    halfOf w c (toHalf i) = w i := by
  refine congrArg w (funext fun b => Fin.ext ?_)
  rcases b with ⟨_ | _ | n, hb⟩
  · show ((Layout.meshBlock [2, 2, 2] (![[0], []] : Fin 2 → List Nat) c) 0).val * 32768 + (i 0).val % 32768 = (i 0).val
    rw [mesh_row]; omega
  · show ((Layout.meshBlock [2, 2, 2] (![[0], []] : Fin 2 → List Nat) c) 1).val * 1024 + (i 1).val = (i 1).val
    rw [mesh_lane]; omega
  · exact absurd hb (by show ¬ n + 1 + 1 < 2; omega)

/-- Whatever a device receives comes from the other half of the mesh. -/
theorem src_half : ∀ (d : Dev nD) (g : Fin 4) (r : Fin 8), (src d g r).val / 4 = 1 - d.val / 4 := by decide +kernel

/-- Every device's result is the whole array. -/
theorem Ov_whole (X : Dev nD → Half F) (w : Full F) (h : ∀ c, X c = halfOf w c) (d : Dev nD) : Ov X d = w := by
  funext i
  have hi : (i 0).val < 65536 := (i 0).isLt
  have hd : d.val < 8 := d.isLt
  unfold Ov
  split
  · next e => rw [h]; exact halfOf_toHalf w d i e
  · next e =>
    unfold Rv
    rw [h]
    refine halfOf_toHalf w _ i ?_
    rw [src_half]; omega

end Value

/-! ## The reference -/

/-- The reference has no operation: from any memory its run ends with that memory. -/
theorem reference_run (m : (ℓ : Loc Cert.Reference.nD Cert.Reference.τ Cert.Reference.sig) → Buf (Elt F) ℓ)
    (ρ : Dev Cert.Reference.nD → PrngReg) :
    θ_run (Cert.Reference.defs (F := F)) (onTc (τ := Cert.Reference.τ) (Cert.Reference.main (F := F))) ⟨m, fun _ => 0, ρ⟩ fun r =>
      ∀ c : Dev Cert.Reference.nD, r.2.mem ((c.tc : Thread Cert.Reference.nD Cert.Reference.τ).loc Cert.Reference.main_arg0)
        = m ((c.tc : Thread Cert.Reference.nD Cert.Reference.τ).loc Cert.Reference.main_arg0) :=
  (θ_run Cert.Reference.defs _ _).mono (fun _ h c => h c Cert.Reference.main_arg0)
    (StableHlo.run_seq (by decide) (by decide) Cert.Reference.defs Cert.Reference.main (fun _ => []) (fun _ => rfl)
      (fun _ => trivial) m ρ)

/-- The same of its idealization. -/
theorem referenceIdeal_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r =>
      ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl)
      (fun _ => trivial) m ρ)

/-! ## The claims -/

/-- The kernel's frame: its text is its idealization's, so the one run, read at the bits, is its run. -/
theorem frame_kernel : Cert.quiescent_Kernel := fun m ρ _ =>
  (θ_run Cert.KernelIdeal.defs _ _).mono (fun _ h => ⟨fun c => (h.1 c).2, h.2⟩) (run_main (F := Bits) m ρ)

/-- The idealized kernel's frame. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference's frame; it has no semaphore. -/
theorem frame_reference : Cert.quiescent_Reference := fun m ρ _ =>
  (θ_run Cert.Reference.defs _ _).mono (fun r h => ⟨h, sem_eq_zero_of_no_sems (by decide) r.2⟩) (reference_run (F := Bits) m ρ)

/-- The idealized reference's frame. -/
theorem frame_referenceIdeal : Cert.quiescent_ReferenceIdeal := fun m ρ _ =>
  (θ_run Cert.ReferenceIdeal.defs _ _).mono (fun r h => ⟨h, sem_eq_zero_of_no_sems (by decide) r.2⟩)
    (referenceIdeal_run (F := Ideal) m ρ)

/-- Over the extended reals the kernel's result on every device is the reference's. -/
theorem algebraic : Cert.algebraic_KernelIdeal_ReferenceIdeal := fun m ρ m' ρ' _ hX =>
  ⟨_, (θ_run Cert.KernelIdeal.defs _ _).mono
      (fun _ h c => ⟨(h.1 c).1.trans (Ov_whole (X m) _ hX c), (h.1 c).2⟩) (run_main (F := Ideal) m ρ),
    (θ_run Cert.ReferenceIdeal.defs _ _).mono (fun _ h => ⟨h 0, h 0⟩) (referenceIdeal_run (F := Ideal) m' ρ')⟩

/-- So it is bit for bit. -/
theorem bitexact : Cert.bitexact_Kernel_Reference := fun m ρ m' ρ' _ hX =>
  ⟨_, (θ_run Cert.KernelIdeal.defs _ _).mono
      (fun _ h c => ⟨(h.1 c).1.trans (Ov_whole (X m) _ hX c), (h.1 c).2⟩) (run_main (F := Bits) m ρ),
    (θ_run Cert.Reference.defs _ _).mono (fun _ h => ⟨h 0, h 0⟩) (reference_run (F := Bits) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
